-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13))
      ∧ r.2.sem = fun _ => 0)

def preserves_Kernel_KernelIdeal : Prop :=
  IdealRules.named_const.Statement Cert.KernelIdeal.κ "mask" .f32 0xF149F2CA#32 ⊥

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)
      ∧ m' ((c.tc : Thread Cert.PostReferenceIdeal.nD Cert.PostReferenceIdeal.τ).loc Cert.PostReferenceIdeal.main_arg12) = m ((c.tc : Thread Cert.PostIdeal.nD Cert.PostIdeal.τ).loc Cert.PostIdeal.main_arg12)
      ∧ m' ((c.tc : Thread Cert.PostReferenceIdeal.nD Cert.PostReferenceIdeal.τ).loc Cert.PostReferenceIdeal.main_arg13) = m ((c.tc : Thread Cert.PostIdeal.nD Cert.PostIdeal.τ).loc Cert.PostIdeal.main_arg13)) →
    ∃ (v0 : (c : Dev Cert.PostIdeal.nD) → Buf (Elt Ideal) ((c.tc : Thread Cert.PostIdeal.nD Cert.PostIdeal.τ).loc Cert.PostIdeal.main_v24)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v24) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v71) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11)
          ∧ r.2.mem ((c.tc : Thread Cert.PostReferenceIdeal.nD Cert.PostReferenceIdeal.τ).loc Cert.PostReferenceIdeal.main_arg12) = m' ((c.tc : Thread Cert.PostReferenceIdeal.nD Cert.PostReferenceIdeal.τ).loc Cert.PostReferenceIdeal.main_arg12)
          ∧ r.2.mem ((c.tc : Thread Cert.PostReferenceIdeal.nD Cert.PostReferenceIdeal.τ).loc Cert.PostReferenceIdeal.main_arg13) = m' ((c.tc : Thread Cert.PostReferenceIdeal.nD Cert.PostReferenceIdeal.τ).loc Cert.PostReferenceIdeal.main_arg13))

def Claim : Prop :=
  ∃ (hKernel : Cert.Kernel.Facts) (hKernelIdeal : Cert.KernelIdeal.Facts) (hPost : Cert.Post.Facts) (hPostIdeal : Cert.PostIdeal.Facts) (hPostReferenceIdeal : Cert.PostReferenceIdeal.Facts),
    quiescent_Kernel (hKernel := hKernel)
    ∧ quiescent_KernelIdeal (hKernelIdeal := hKernelIdeal)
    ∧ quiescent_Post (hPost := hPost)
    ∧ quiescent_PostIdeal (hPostIdeal := hPostIdeal)
    ∧ quiescent_PostReferenceIdeal (hPostReferenceIdeal := hPostReferenceIdeal)
    ∧ preserves_Kernel_KernelIdeal
    ∧ preserves_Post_PostIdeal
    ∧ algebraic_PostIdeal_PostReferenceIdeal (hPostIdeal := hPostIdeal) (hPostReferenceIdeal := hPostReferenceIdeal)
-- ==== Kernel.lean ====
abbrev S2x8192x2x4x64 : Shape := ⟨5, ![2, 8192, 2, 4, 64]⟩
abbrev S2x256x2x2x64 : Shape := ⟨5, ![2, 256, 2, 2, 64]⟩
abbrev S2x8192x2x2x64 : Shape := ⟨5, ![2, 8192, 2, 2, 64]⟩
abbrev S2x8192x3x2x4x1 : Shape := ⟨6, ![2, 8192, 3, 2, 4, 1]⟩
abbrev S2x8192x24 : Shape := ⟨3, ![2, 8192, 24]⟩
abbrev S_ : Shape := ⟨0, ![]⟩
abbrev S2x8192x128 : Shape := ⟨3, ![2, 8192, 128]⟩
abbrev S2x8192x512 : Shape := ⟨3, ![2, 8192, 512]⟩
abbrev S2x128x512 : Shape := ⟨3, ![2, 128, 512]⟩
abbrev S2x2x2x64x8192 : Shape := ⟨5, ![2, 2, 2, 64, 8192]⟩
abbrev S2x256x8192 : Shape := ⟨3, ![2, 256, 8192]⟩
abbrev S128x8192 : Shape := ⟨2, ![128, 8192]⟩
abbrev S1x128x512 : Shape := ⟨3, ![1, 128, 512]⟩
abbrev S1x128x128 : Shape := ⟨3, ![1, 128, 128]⟩
abbrev S1x256x8192 : Shape := ⟨3, ![1, 256, 8192]⟩
abbrev S128x128 : Shape := ⟨2, ![128, 128]⟩
abbrev S128x1 : Shape := ⟨2, ![128, 1]⟩
abbrev S128x512 : Shape := ⟨2, ![128, 512]⟩
abbrev S1024x128 : Shape := ⟨2, ![1024, 128]⟩
abbrev S256x128 : Shape := ⟨2, ![256, 128]⟩
abbrev S1024x256 : Shape := ⟨2, ![1024, 256]⟩
abbrev S8x128x256 : Shape := ⟨3, ![8, 128, 256]⟩
abbrev S128x256 : Shape := ⟨2, ![128, 256]⟩
abbrev S1x128x256 : Shape := ⟨3, ![1, 128, 256]⟩
abbrev S8x128 : Shape := ⟨2, ![8, 128]⟩
abbrev S8x128x1 : Shape := ⟨3, ![8, 128, 1]⟩
abbrev S1x128 : Shape := ⟨2, ![1, 128]⟩
abbrev S64x1024 : Shape := ⟨2, ![64, 1024]⟩
abbrev S512x128 : Shape := ⟨2, ![512, 128]⟩
abbrev S128x1024 : Shape := ⟨2, ![128, 1024]⟩
abbrev S1x128x1024 : Shape := ⟨3, ![1, 128, 1024]⟩
abbrev S256x1024 : Shape := ⟨2, ![256, 1024]⟩
abbrev S1024x1024 : Shape := ⟨2, ![1024, 1024]⟩
abbrev S128 : Shape := ⟨1, ![128]⟩
abbrev S1x64x1024 : Shape := ⟨3, ![1, 64, 1024]⟩
abbrev S512x1024 : Shape := ⟨2, ![512, 1024]⟩
abbrev S512x1 : Shape := ⟨2, ![512, 1]⟩
abbrev S1x640 : Shape := ⟨2, ![1, 640]⟩
abbrev S1x128x640 : Shape := ⟨3, ![1, 128, 640]⟩
abbrev S128x640 : Shape := ⟨2, ![128, 640]⟩
abbrev S1024x640 : Shape := ⟨2, ![1024, 640]⟩
abbrev S64x640 : Shape := ⟨2, ![64, 640]⟩
abbrev S512x640 : Shape := ⟨2, ![512, 640]⟩

abbrev nBuf : Space → Nat
  | .hbm => 55
  | .vmem => 17
  | .smem => 0
  | _ => 0

abbrev bufTy : (tb : Table) → Fin (tcTables nBuf tb) → BufTy
  | .hbm, ⟨0, _⟩ => ⟨S2x8192x2x4x64, .f32⟩
  | .hbm, ⟨1, _⟩ => ⟨S2x8192x2x4x64, .f32⟩
  | .hbm, ⟨2, _⟩ => ⟨S2x256x2x2x64, .f32⟩
  | .hbm, ⟨3, _⟩ => ⟨S2x8192x2x2x64, .f32⟩
  | .hbm, ⟨4, _⟩ => ⟨S2x8192x2x2x64, .f32⟩
  | .hbm, ⟨5, _⟩ => ⟨S2x8192x3x2x4x1, .f32⟩
  | .hbm, ⟨6, _⟩ => ⟨S2x8192x24, .f32⟩
  | .hbm, ⟨7, _⟩ => ⟨S_, .i32⟩
  | .hbm, ⟨8, _⟩ => ⟨S_, .f32⟩
  | .hbm, ⟨9, _⟩ => ⟨S2x8192x128, .f32⟩
  | .hbm, ⟨10, _⟩ => ⟨S2x8192x512, .f32⟩
  | .hbm, ⟨11, _⟩ => ⟨S_, .f32⟩
  | .hbm, ⟨12, _⟩ => ⟨S2x8192x512, .f32⟩
  | .hbm, ⟨13, _⟩ => ⟨S2x8192x512, .f32⟩
  | .hbm, ⟨14, _⟩ => ⟨S2x8192x512, .bf16⟩
  | .hbm, ⟨15, _⟩ => ⟨S2x8192x512, .f32⟩
  | .hbm, ⟨16, _⟩ => ⟨S_, .f32⟩
  | .hbm, ⟨17, _⟩ => ⟨S2x8192x512, .f32⟩
  | .hbm, ⟨18, _⟩ => ⟨S2x8192x512, .f32⟩
  | .hbm, ⟨19, _⟩ => ⟨S2x8192x512, .bf16⟩
  | .hbm, ⟨20, _⟩ => ⟨S2x128x512, .f32⟩
  | .hbm, ⟨21, _⟩ => ⟨S2x2x2x64x8192, .f32⟩
  | .hbm, ⟨22, _⟩ => ⟨S2x256x8192, .f32⟩
  | .hbm, ⟨23, _⟩ => ⟨S2x256x8192, .bf16⟩
  | .hbm, ⟨24, _⟩ => ⟨S2x2x2x64x8192, .f32⟩
  | .hbm, ⟨25, _⟩ => ⟨S2x256x8192, .f32⟩
  | .hbm, ⟨26, _⟩ => ⟨S2x256x8192, .bf16⟩
  | .hbm, ⟨27, _⟩ => ⟨S128x8192, .i32⟩
  | .hbm, ⟨28, _⟩ => ⟨S_, .i32⟩
  | .hbm, ⟨29, _⟩ => ⟨S_, .i32⟩
  | .hbm, ⟨30, _⟩ => ⟨S128x8192, .i32⟩
  | .hbm, ⟨31, _⟩ => ⟨S128x8192, .i32⟩
  | .hbm, ⟨32, _⟩ => ⟨S128x8192, .i32⟩
  | .hbm, ⟨33, _⟩ => ⟨S_, .i32⟩
  | .hbm, ⟨34, _⟩ => ⟨S128x8192, .i32⟩
  | .hbm, ⟨35, _⟩ => ⟨S128x8192, .i1⟩
  | .hbm, ⟨36, _⟩ => ⟨S128x8192, .i32⟩
  | .hbm, ⟨37, _⟩ => ⟨S128x8192, .i32⟩
  | .hbm, ⟨38, _⟩ => ⟨S_, .i32⟩
  | .hbm, ⟨39, _⟩ => ⟨S128x8192, .i32⟩
  | .hbm, ⟨40, _⟩ => ⟨S128x8192, .i1⟩
  | .hbm, ⟨41, _⟩ => ⟨S128x8192, .i1⟩
  | .hbm, ⟨42, _⟩ => ⟨S_, .i32⟩
  | .hbm, ⟨43, _⟩ => ⟨S128x8192, .i32⟩
  | .hbm, ⟨44, _⟩ => ⟨S128x8192, .i32⟩
  | .hbm, ⟨45, _⟩ => ⟨S128x8192, .i32⟩
  | .hbm, ⟨46, _⟩ => ⟨S128x8192, .i32⟩
  | .hbm, ⟨47, _⟩ => ⟨S128x8192, .i1⟩
  | .hbm, ⟨48, _⟩ => ⟨S_, .f32⟩
  | .hbm, ⟨49, _⟩ => ⟨S_, .f32⟩
  | .hbm, ⟨50, _⟩ => ⟨S128x8192, .f32⟩
  | .hbm, ⟨51, _⟩ => ⟨S128x8192, .f32⟩
  | .hbm, ⟨52, _⟩ => ⟨S128x8192, .f32⟩
  | .hbm, ⟨53, _⟩ => ⟨S128x8192, .bf16⟩
  | .hbm, ⟨54, _⟩ => ⟨S2x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x128, .f32⟩
  | .local _ .vmem, ⟨5, _⟩ => ⟨S1x128x128, .f32⟩
  | .local _ .vmem, ⟨6, _⟩ => ⟨S1x128x512, .f32⟩
  | .local _ .vmem, ⟨7, _⟩ => ⟨S1x128x512, .f32⟩
  | .local _ .vmem, ⟨8, _⟩ => ⟨S1x256x8192, .bf16⟩
  | .local _ .vmem, ⟨9, _⟩ => ⟨S1x256x8192, .bf16⟩
  | .local _ .vmem, ⟨10, _⟩ => ⟨S1x256x8192, .bf16⟩
  | .local _ .vmem, ⟨11, _⟩ => ⟨S1x256x8192, .bf16⟩
  | .local _ .vmem, ⟨12, _⟩ => ⟨S128x8192, .bf16⟩
  | .local _ .vmem, ⟨13, _⟩ => ⟨S1x128x512, .bf16⟩
  | .local _ .vmem, ⟨14, _⟩ => ⟨S1x128x512, .bf16⟩
  | .local _ .vmem, ⟨15, _⟩ => ⟨S128x128, .f32⟩
  | .local _ .vmem, ⟨16, _⟩ => ⟨S128x128, .f32⟩
  | _, _ => ⟨S2x8192x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_cst_3 : Ref sig .tc := ⟨.hbm, 49, rfl⟩
abbrev main_call2_v0 : Ref sig .tc := ⟨.hbm, 50, rfl⟩
abbrev main_call2_v1 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 64], ![false, false]⟩

def k0_cond81 (i : grid0.Coords) : BitVec 1 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_171 : BitVec 32 := 0#32
  let v417 : BitVec 32 := Scalar.maxsi v416 c0_i32_171
  let c3_i32_172 : BitVec 32 := 3#32
  let v418 : BitVec 32 := Scalar.minsi v417 c3_i32_172
  let c0_i32_173 : BitVec 32 := 0#32
  let v419 : BitVec 1 := Scalar.cmpi .ne v418 c0_i32_173
  v419

def k0_cond82 (i : grid0.Coords) : BitVec 1 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_171 : BitVec 32 := 0#32
  let v417 : BitVec 32 := Scalar.maxsi v416 c0_i32_171
  let c3_i32_172 : BitVec 32 := 3#32
  let v418 : BitVec 32 := Scalar.minsi v417 c3_i32_172
  let c1_i32_238 : BitVec 32 := 1#32
  let v719 : BitVec 32 := Scalar.subi v418 c1_i32_238
  let c0_i32_239 : BitVec 32 := 0#32
  let v720 : BitVec 1 := Scalar.cmpi .ne v719 c0_i32_239
  v720

def k0_cond83 (i : grid0.Coords) : BitVec 1 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_171 : BitVec 32 := 0#32
  let v417 : BitVec 32 := Scalar.maxsi v416 c0_i32_171
  let c3_i32_172 : BitVec 32 := 3#32
  let v418 : BitVec 32 := Scalar.minsi v417 c3_i32_172
  let c1_i32_238 : BitVec 32 := 1#32
  let v719 : BitVec 32 := Scalar.subi v418 c1_i32_238
  let c1_i32_240 : BitVec 32 := 1#32
  let v722 : BitVec 32 := Scalar.subi v719 c1_i32_240
  let c0_i32_241 : BitVec 32 := 0#32
  let v723 : BitVec 1 := Scalar.cmpi .ne v722 c0_i32_241
  v723

def k0_mult1 (i : grid0.Coords) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_242 : BitVec 32 := 1024#32
  let v725 : BitVec 32 := Scalar.muli v388 c1024_i32_242
  v725
def k0_off1 (i : grid0.Coords) : Fin 2 → Nat :=
  let c0_243 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_242 : BitVec 32 := 1024#32
  let v725 : BitVec 32 := Scalar.muli v388 c1024_i32_242
  let v726 : BitVec 32 := v725
  let v727 : Index := Scalar.indexCast v726
  ![0, v727.toNat]
def k0_off2 (i : grid0.Coords) : Fin 3 → Nat :=
  let c0_244 : Index := 0#32
  let c0_245 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_242 : BitVec 32 := 1024#32
  let v725 : BitVec 32 := Scalar.muli v388 c1024_i32_242
  let v726 : BitVec 32 := v725
  let v730 : Index := Scalar.indexCast v726
  ![0, 0, v730.toNat]
def k0_off3 (i : grid0.Coords) : Fin 3 → Nat :=
  let c0_263 : Index := 0#32
  let c128_264 : Index := 128#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_242 : BitVec 32 := 1024#32
  let v725 : BitVec 32 := Scalar.muli v388 c1024_i32_242
  let v726 : BitVec 32 := v725
  let v836 : Index := Scalar.indexCast v726
  ![0, 128, v836.toNat]
def k0_off4 (i : grid0.Coords) : Fin 3 → Nat :=
  let c0_266 : Index := 0#32
  let c192 : Index := 192#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_242 : BitVec 32 := 1024#32
  let v725 : BitVec 32 := Scalar.muli v388 c1024_i32_242
  let v726 : BitVec 32 := v725
  let v846 : Index := Scalar.indexCast v726
  ![0, 192, v846.toNat]
def k0_mult2 : BitVec 32 :=
  let c0_i32_268 : BitVec 32 := 0#32
  c0_i32_268
def k0_mult3 : BitVec 32 :=
  let c1024_i32_287 : BitVec 32 := 1024#32
  c1024_i32_287
def k0_mult4 (i : grid0.Coords) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_242 : BitVec 32 := 1024#32
  let v725 : BitVec 32 := Scalar.muli v388 c1024_i32_242
  v725
def k0_off5 (i : grid0.Coords) : Fin 2 → Nat :=
  let c0_243 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_242 : BitVec 32 := 1024#32
  let v725 : BitVec 32 := Scalar.muli v388 c1024_i32_242
  let v726 : BitVec 32 := v725
  let v727 : Index := Scalar.indexCast v726
  ![0, v727.toNat]
def k0_off6 (i : grid0.Coords) : Fin 3 → Nat :=
  let c0_244 : Index := 0#32
  let c0_245 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_242 : BitVec 32 := 1024#32
  let v725 : BitVec 32 := Scalar.muli v388 c1024_i32_242
  let v726 : BitVec 32 := v725
  let v730 : Index := Scalar.indexCast v726
  ![0, 0, v730.toNat]
def k0_off7 (i : grid0.Coords) : Fin 3 → Nat :=
  let c0_263 : Index := 0#32
  let c128_264 : Index := 128#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_242 : BitVec 32 := 1024#32
  let v725 : BitVec 32 := Scalar.muli v388 c1024_i32_242
  let v726 : BitVec 32 := v725
  let v836 : Index := Scalar.indexCast v726
  ![0, 128, v836.toNat]
def k0_off8 (i : grid0.Coords) : Fin 3 → Nat :=
  let c0_266 : Index := 0#32
  let c192 : Index := 192#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_242 : BitVec 32 := 1024#32
  let v725 : BitVec 32 := Scalar.muli v388 c1024_i32_242
  let v726 : BitVec 32 := v725
  let v846 : Index := Scalar.indexCast v726
  ![0, 192, v846.toNat]
def k0_mult5 : BitVec 32 :=
  let c0_i32_268 : BitVec 32 := 0#32
  c0_i32_268
def k0_mult6 (i : grid0.Coords) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_240 : BitVec 32 := 1024#32
  let v722 : BitVec 32 := Scalar.muli v388 c1024_i32_240
  v722
def k0_off9 (i : grid0.Coords) : Fin 2 → Nat :=
  let c0_241 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_240 : BitVec 32 := 1024#32
  let v722 : BitVec 32 := Scalar.muli v388 c1024_i32_240
  let v723 : BitVec 32 := v722
  let v724 : Index := Scalar.indexCast v723
  ![0, v724.toNat]
def k0_off10 (i : grid0.Coords) : Fin 3 → Nat :=
  let c0_242 : Index := 0#32
  let c0_243 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_240 : BitVec 32 := 1024#32
  let v722 : BitVec 32 := Scalar.muli v388 c1024_i32_240
  let v723 : BitVec 32 := v722
  let v727 : Index := Scalar.indexCast v723
  ![0, 0, v727.toNat]
def k0_off11 (i : grid0.Coords) : Fin 3 → Nat :=
  let c0_261 : Index := 0#32
  let c128_262 : Index := 128#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_240 : BitVec 32 := 1024#32
  let v722 : BitVec 32 := Scalar.muli v388 c1024_i32_240
  let v723 : BitVec 32 := v722
  let v833 : Index := Scalar.indexCast v723
  ![0, 128, v833.toNat]
def k0_off12 (i : grid0.Coords) : Fin 3 → Nat :=
  let c0_264 : Index := 0#32
  let c192 : Index := 192#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_240 : BitVec 32 := 1024#32
  let v722 : BitVec 32 := Scalar.muli v388 c1024_i32_240
  let v723 : BitVec 32 := v722
  let v843 : Index := Scalar.indexCast v723
  ![0, 192, v843.toNat]
def k0_mult7 (i : grid0.Coords) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_238 : BitVec 32 := 1024#32
  let v719 : BitVec 32 := Scalar.muli v388 c1024_i32_238
  v719
def k0_off13 (i : grid0.Coords) : Fin 2 → Nat :=
  let c0_239 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_238 : BitVec 32 := 1024#32
  let v719 : BitVec 32 := Scalar.muli v388 c1024_i32_238
  let v720 : BitVec 32 := v719
  let v721 : Index := Scalar.indexCast v720
  ![0, v721.toNat]
def k0_off14 (i : grid0.Coords) : Fin 3 → Nat :=
  let c0_240 : Index := 0#32
  let c0_241 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_238 : BitVec 32 := 1024#32
  let v719 : BitVec 32 := Scalar.muli v388 c1024_i32_238
  let v720 : BitVec 32 := v719
  let v724 : Index := Scalar.indexCast v720
  ![0, 0, v724.toNat]
def k0_off15 (i : grid0.Coords) : Fin 3 → Nat :=
  let c0_259 : Index := 0#32
  let c128_260 : Index := 128#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_238 : BitVec 32 := 1024#32
  let v719 : BitVec 32 := Scalar.muli v388 c1024_i32_238
  let v720 : BitVec 32 := v719
  let v830 : Index := Scalar.indexCast v720
  ![0, 128, v830.toNat]
def k0_off16 (i : grid0.Coords) : Fin 3 → Nat :=
  let c0_262 : Index := 0#32
  let c192 : Index := 192#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1024_i32_238 : BitVec 32 := 1024#32
  let v719 : BitVec 32 := Scalar.muli v388 c1024_i32_238
  let v720 : BitVec 32 := v719
  let v840 : Index := Scalar.indexCast v720
  ![0, 192, v840.toNat]
def k0_mult8 : BitVec 32 :=
  let c0_i32_264 : BitVec 32 := 0#32
  c0_i32_264
def k0_mult9 : BitVec 32 :=
  let c1024_i32_283 : BitVec 32 := 1024#32
  c1024_i32_283
def k0_mult10 : BitVec 32 :=
  let c2048_i32 : BitVec 32 := 2048#32
  c2048_i32
@[reducible] def k0_t1_loop (i : grid0.Coords) : Scf.Loop 32 :=
  let c0_i32_184 : BitVec 32 := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let v424 : BitVec 32 := Scalar.subi v388 v423
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let v442 : BitVec 32 := Scalar.subi v441 c0_i32_184
  let c1_i32_185 : BitVec 32 := 1#32
  let v444 : BitVec 32 := Scalar.divsi v442 c1_i32_185
  let v445 : BitVec 32 := Scalar.muli v444 c1_i32_185
  let v446 : BitVec 32 := Scalar.addi c0_i32_184 v445
  let c1_i32_186 : BitVec 32 := 1#32
  ⟨c0_i32_184, v446, c1_i32_186⟩
def k0_mult11 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let c1_i32_186 : BitVec 32 := 1#32
  let arg12 : BitVec 32 := Scf.iv c0_i32_184 c1_i32_186 k0_t1
  let v719 : BitVec 32 := Scalar.muli c4_i32_238 arg12
  let v720 : BitVec 32 := Scalar.addi v423 v719
  let c0_i32_239 : BitVec 32 := 0#32
  let v721 : BitVec 32 := Scalar.addi v720 c0_i32_239
  let c1024_i32_240 : BitVec 32 := 1024#32
  let v722 : BitVec 32 := Scalar.muli v721 c1024_i32_240
  v722
def k0_off17 (i : grid0.Coords) (k0_t1 : Fin (k0_t1_loop i).trips) (c0_i32_239 : BitVec 32) : Fin 2 → Nat :=
  let c0_241 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let c1_i32_186 : BitVec 32 := 1#32
  let arg12 : BitVec 32 := Scf.iv c0_i32_184 c1_i32_186 k0_t1
  let v719 : BitVec 32 := Scalar.muli c4_i32_238 arg12
  let v720 : BitVec 32 := Scalar.addi v423 v719
  let v721 : BitVec 32 := Scalar.addi v720 c0_i32_239
  let c1024_i32_240 : BitVec 32 := 1024#32
  let v722 : BitVec 32 := Scalar.muli v721 c1024_i32_240
  let v723 : BitVec 32 := v722
  let v724 : Index := Scalar.indexCast v723
  ![0, v724.toNat]
def k0_off18 (i : grid0.Coords) (k0_t1 : Fin (k0_t1_loop i).trips) (c0_i32_239 : BitVec 32) : Fin 3 → Nat :=
  let c0_242 : Index := 0#32
  let c0_243 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let c1_i32_186 : BitVec 32 := 1#32
  let arg12 : BitVec 32 := Scf.iv c0_i32_184 c1_i32_186 k0_t1
  let v719 : BitVec 32 := Scalar.muli c4_i32_238 arg12
  let v720 : BitVec 32 := Scalar.addi v423 v719
  let v721 : BitVec 32 := Scalar.addi v720 c0_i32_239
  let c1024_i32_240 : BitVec 32 := 1024#32
  let v722 : BitVec 32 := Scalar.muli v721 c1024_i32_240
  let v723 : BitVec 32 := v722
  let v727 : Index := Scalar.indexCast v723
  ![0, 0, v727.toNat]
def k0_off19 (i : grid0.Coords) (k0_t1 : Fin (k0_t1_loop i).trips) (c0_i32_239 : BitVec 32) : Fin 3 → Nat :=
  let c0_253 : Index := 0#32
  let c128_254 : Index := 128#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let c1_i32_186 : BitVec 32 := 1#32
  let arg12 : BitVec 32 := Scf.iv c0_i32_184 c1_i32_186 k0_t1
  let v719 : BitVec 32 := Scalar.muli c4_i32_238 arg12
  let v720 : BitVec 32 := Scalar.addi v423 v719
  let v721 : BitVec 32 := Scalar.addi v720 c0_i32_239
  let c1024_i32_240 : BitVec 32 := 1024#32
  let v722 : BitVec 32 := Scalar.muli v721 c1024_i32_240
  let v723 : BitVec 32 := v722
  let v812 : Index := Scalar.indexCast v723
  ![0, 128, v812.toNat]
def k0_off20 (i : grid0.Coords) (k0_t1 : Fin (k0_t1_loop i).trips) (c0_i32_239 : BitVec 32) : Fin 3 → Nat :=
  let c0_256 : Index := 0#32
  let c192 : Index := 192#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let c1_i32_186 : BitVec 32 := 1#32
  let arg12 : BitVec 32 := Scf.iv c0_i32_184 c1_i32_186 k0_t1
  let v719 : BitVec 32 := Scalar.muli c4_i32_238 arg12
  let v720 : BitVec 32 := Scalar.addi v423 v719
  let v721 : BitVec 32 := Scalar.addi v720 c0_i32_239
  let c1024_i32_240 : BitVec 32 := 1024#32
  let v722 : BitVec 32 := Scalar.muli v721 c1024_i32_240
  let v723 : BitVec 32 := v722
  let v822 : Index := Scalar.indexCast v723
  ![0, 192, v822.toNat]
def k0_mult12 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let c1_i32_186 : BitVec 32 := 1#32
  let arg12 : BitVec 32 := Scf.iv c0_i32_184 c1_i32_186 k0_t1
  let v719 : BitVec 32 := Scalar.muli c4_i32_238 arg12
  let v720 : BitVec 32 := Scalar.addi v423 v719
  let c1_i32_258 : BitVec 32 := 1#32
  let v832 : BitVec 32 := Scalar.addi v720 c1_i32_258
  let c1024_i32_259 : BitVec 32 := 1024#32
  let v833 : BitVec 32 := Scalar.muli v832 c1024_i32_259
  v833
def k0_mult13 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let c1_i32_186 : BitVec 32 := 1#32
  let arg12 : BitVec 32 := Scf.iv c0_i32_184 c1_i32_186 k0_t1
  let v719 : BitVec 32 := Scalar.muli c4_i32_238 arg12
  let v720 : BitVec 32 := Scalar.addi v423 v719
  let c2_i32_278 : BitVec 32 := 2#32
  let v943 : BitVec 32 := Scalar.addi v720 c2_i32_278
  let c1024_i32_279 : BitVec 32 := 1024#32
  let v944 : BitVec 32 := Scalar.muli v943 c1024_i32_279
  v944
def k0_mult14 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let c1_i32_186 : BitVec 32 := 1#32
  let arg12 : BitVec 32 := Scf.iv c0_i32_184 c1_i32_186 k0_t1
  let v719 : BitVec 32 := Scalar.muli c4_i32_238 arg12
  let v720 : BitVec 32 := Scalar.addi v423 v719
  let c3_i32_298 : BitVec 32 := 3#32
  let v1054 : BitVec 32 := Scalar.addi v720 c3_i32_298
  let c1024_i32_299 : BitVec 32 := 1024#32
  let v1055 : BitVec 32 := Scalar.muli v1054 c1024_i32_299
  v1055
@[reducible] def k0_t2_loop (i : grid0.Coords) : Scf.Loop 32 :=
  let c0_i32_184 : BitVec 32 := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let v424 : BitVec 32 := Scalar.subi v388 v423
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let v442 : BitVec 32 := Scalar.subi v441 c0_i32_184
  let c1_i32_185 : BitVec 32 := 1#32
  let v444 : BitVec 32 := Scalar.divsi v442 c1_i32_185
  let v445 : BitVec 32 := Scalar.muli v444 c1_i32_185
  let v446 : BitVec 32 := Scalar.addi c0_i32_184 v445
  let v443 : BitVec 32 := Scalar.addi c0_i32_184 v442
  let c1_i32_187 : BitVec 32 := 1#32
  ⟨v446, v443, c1_i32_187⟩
def k0_mult15 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let v424 : BitVec 32 := Scalar.subi v388 v423
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let v442 : BitVec 32 := Scalar.subi v441 c0_i32_184
  let c1_i32_185 : BitVec 32 := 1#32
  let v444 : BitVec 32 := Scalar.divsi v442 c1_i32_185
  let v445 : BitVec 32 := Scalar.muli v444 c1_i32_185
  let v446 : BitVec 32 := Scalar.addi c0_i32_184 v445
  let c1_i32_187 : BitVec 32 := 1#32
  let arg12 : BitVec 32 := Scf.iv v446 c1_i32_187 k0_t2
  let v719 : BitVec 32 := Scalar.muli c4_i32_238 arg12
  let v720 : BitVec 32 := Scalar.addi v423 v719
  let c0_i32_239 : BitVec 32 := 0#32
  let v721 : BitVec 32 := Scalar.addi v720 c0_i32_239
  let c1024_i32_240 : BitVec 32 := 1024#32
  let v722 : BitVec 32 := Scalar.muli v721 c1024_i32_240
  v722
def k0_off21 (i : grid0.Coords) (k0_t2 : Fin (k0_t2_loop i).trips) (c0_i32_239 : BitVec 32) : Fin 2 → Nat :=
  let c0_241 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let v424 : BitVec 32 := Scalar.subi v388 v423
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let v442 : BitVec 32 := Scalar.subi v441 c0_i32_184
  let c1_i32_185 : BitVec 32 := 1#32
  let v444 : BitVec 32 := Scalar.divsi v442 c1_i32_185
  let v445 : BitVec 32 := Scalar.muli v444 c1_i32_185
  let v446 : BitVec 32 := Scalar.addi c0_i32_184 v445
  let c1_i32_187 : BitVec 32 := 1#32
  let arg12 : BitVec 32 := Scf.iv v446 c1_i32_187 k0_t2
  let v719 : BitVec 32 := Scalar.muli c4_i32_238 arg12
  let v720 : BitVec 32 := Scalar.addi v423 v719
  let v721 : BitVec 32 := Scalar.addi v720 c0_i32_239
  let c1024_i32_240 : BitVec 32 := 1024#32
  let v722 : BitVec 32 := Scalar.muli v721 c1024_i32_240
  let v723 : BitVec 32 := v722
  let v724 : Index := Scalar.indexCast v723
  ![0, v724.toNat]
def k0_off22 (i : grid0.Coords) (k0_t2 : Fin (k0_t2_loop i).trips) (c0_i32_239 : BitVec 32) : Fin 3 → Nat :=
  let c0_242 : Index := 0#32
  let c0_243 : Index := 0#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let v424 : BitVec 32 := Scalar.subi v388 v423
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let v442 : BitVec 32 := Scalar.subi v441 c0_i32_184
  let c1_i32_185 : BitVec 32 := 1#32
  let v444 : BitVec 32 := Scalar.divsi v442 c1_i32_185
  let v445 : BitVec 32 := Scalar.muli v444 c1_i32_185
  let v446 : BitVec 32 := Scalar.addi c0_i32_184 v445
  let c1_i32_187 : BitVec 32 := 1#32
  let arg12 : BitVec 32 := Scf.iv v446 c1_i32_187 k0_t2
  let v719 : BitVec 32 := Scalar.muli c4_i32_238 arg12
  let v720 : BitVec 32 := Scalar.addi v423 v719
  let v721 : BitVec 32 := Scalar.addi v720 c0_i32_239
  let c1024_i32_240 : BitVec 32 := 1024#32
  let v722 : BitVec 32 := Scalar.muli v721 c1024_i32_240
  let v723 : BitVec 32 := v722
  let v727 : Index := Scalar.indexCast v723
  ![0, 0, v727.toNat]
def k0_off23 (i : grid0.Coords) (k0_t2 : Fin (k0_t2_loop i).trips) (c0_i32_239 : BitVec 32) : Fin 3 → Nat :=
  let c0_253 : Index := 0#32
  let c128_254 : Index := 128#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let v424 : BitVec 32 := Scalar.subi v388 v423
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let v442 : BitVec 32 := Scalar.subi v441 c0_i32_184
  let c1_i32_185 : BitVec 32 := 1#32
  let v444 : BitVec 32 := Scalar.divsi v442 c1_i32_185
  let v445 : BitVec 32 := Scalar.muli v444 c1_i32_185
  let v446 : BitVec 32 := Scalar.addi c0_i32_184 v445
  let c1_i32_187 : BitVec 32 := 1#32
  let arg12 : BitVec 32 := Scf.iv v446 c1_i32_187 k0_t2
  let v719 : BitVec 32 := Scalar.muli c4_i32_238 arg12
  let v720 : BitVec 32 := Scalar.addi v423 v719
  let v721 : BitVec 32 := Scalar.addi v720 c0_i32_239
  let c1024_i32_240 : BitVec 32 := 1024#32
  let v722 : BitVec 32 := Scalar.muli v721 c1024_i32_240
  let v723 : BitVec 32 := v722
  let v812 : Index := Scalar.indexCast v723
  ![0, 128, v812.toNat]
def k0_off24 (i : grid0.Coords) (k0_t2 : Fin (k0_t2_loop i).trips) (c0_i32_239 : BitVec 32) : Fin 3 → Nat :=
  let c0_256 : Index := 0#32
  let c192 : Index := 192#32
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let v424 : BitVec 32 := Scalar.subi v388 v423
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let v442 : BitVec 32 := Scalar.subi v441 c0_i32_184
  let c1_i32_185 : BitVec 32 := 1#32
  let v444 : BitVec 32 := Scalar.divsi v442 c1_i32_185
  let v445 : BitVec 32 := Scalar.muli v444 c1_i32_185
  let v446 : BitVec 32 := Scalar.addi c0_i32_184 v445
  let c1_i32_187 : BitVec 32 := 1#32
  let arg12 : BitVec 32 := Scf.iv v446 c1_i32_187 k0_t2
  let v719 : BitVec 32 := Scalar.muli c4_i32_238 arg12
  let v720 : BitVec 32 := Scalar.addi v423 v719
  let v721 : BitVec 32 := Scalar.addi v720 c0_i32_239
  let c1024_i32_240 : BitVec 32 := 1024#32
  let v722 : BitVec 32 := Scalar.muli v721 c1024_i32_240
  let v723 : BitVec 32 := v722
  let v822 : Index := Scalar.indexCast v723
  ![0, 192, v822.toNat]
def k0_mult16 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let v424 : BitVec 32 := Scalar.subi v388 v423
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let v442 : BitVec 32 := Scalar.subi v441 c0_i32_184
  let c1_i32_185 : BitVec 32 := 1#32
  let v444 : BitVec 32 := Scalar.divsi v442 c1_i32_185
  let v445 : BitVec 32 := Scalar.muli v444 c1_i32_185
  let v446 : BitVec 32 := Scalar.addi c0_i32_184 v445
  let c1_i32_187 : BitVec 32 := 1#32
  let arg12 : BitVec 32 := Scf.iv v446 c1_i32_187 k0_t2
  let v719 : BitVec 32 := Scalar.muli c4_i32_238 arg12
  let v720 : BitVec 32 := Scalar.addi v423 v719
  let c1_i32_258 : BitVec 32 := 1#32
  let v832 : BitVec 32 := Scalar.addi v720 c1_i32_258
  let c1024_i32_259 : BitVec 32 := 1024#32
  let v833 : BitVec 32 := Scalar.muli v832 c1024_i32_259
  v833
def k0_mult17 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let v424 : BitVec 32 := Scalar.subi v388 v423
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let v442 : BitVec 32 := Scalar.subi v441 c0_i32_184
  let c1_i32_185 : BitVec 32 := 1#32
  let v444 : BitVec 32 := Scalar.divsi v442 c1_i32_185
  let v445 : BitVec 32 := Scalar.muli v444 c1_i32_185
  let v446 : BitVec 32 := Scalar.addi c0_i32_184 v445
  let c1_i32_187 : BitVec 32 := 1#32
  let arg12 : BitVec 32 := Scf.iv v446 c1_i32_187 k0_t2
  let v719 : BitVec 32 := Scalar.muli c4_i32_238 arg12
  let v720 : BitVec 32 := Scalar.addi v423 v719
  let c2_i32_278 : BitVec 32 := 2#32
  let v943 : BitVec 32 := Scalar.addi v720 c2_i32_278
  let c1024_i32_279 : BitVec 32 := 1024#32
  let v944 : BitVec 32 := Scalar.muli v943 c1024_i32_279
  v944
def k0_mult18 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32_145 : BitVec 32 := 0#32
  let v373 : BitVec 1 := Scalar.cmpi .sgt v0 c0_i32_145
  let v374 : BitVec 32 := Scalar.extui v373
  let c0_i32_146 : BitVec 32 := 0#32
  let v375 : BitVec 1 := Scalar.cmpi .slt v0 c0_i32_146
  let v376 : BitVec 32 := Scalar.extui v375
  let v377 : BitVec 32 := Scalar.subi v374 v376
  let c1024_i32 : BitVec 32 := 1024#32
  let c0_i32_147 : BitVec 32 := 0#32
  let v378 : BitVec 1 := Scalar.cmpi .sgt c1024_i32 c0_i32_147
  let v379 : BitVec 32 := Scalar.extui v378
  let c0_i32_148 : BitVec 32 := 0#32
  let v380 : BitVec 1 := Scalar.cmpi .slt c1024_i32 c0_i32_148
  let v381 : BitVec 32 := Scalar.extui v380
  let v382 : BitVec 32 := Scalar.subi v379 v381
  let v383 : BitVec 1 := Scalar.cmpi .ne v377 v382
  let v384 : BitVec 32 := Scalar.remsi v0 c1024_i32
  let c0_i32_149 : BitVec 32 := 0#32
  let v385 : BitVec 1 := Scalar.cmpi .ne v384 c0_i32_149
  let v386 : BitVec 1 := Scalar.andi v383 v385
  let v372 : BitVec 32 := Scalar.divsi v0 c1024_i32
  let c1_i32_150 : BitVec 32 := 1#32
  let v387 : BitVec 32 := Scalar.subi v372 c1_i32_150
  let v388 : BitVec 32 := Scalar.select v386 v387 v372
  let c1_i32_164 : BitVec 32 := 1#32
  let v406 : BitVec 32 := Scalar.addi v388 c1_i32_164
  let c4_i32_165 : BitVec 32 := 4#32
  let c0_i32_166 : BitVec 32 := 0#32
  let v407 : BitVec 1 := Scalar.cmpi .eq c4_i32_165 c0_i32_166
  let c1_i32_167 : BitVec 32 := 1#32
  let v408 : BitVec 32 := Scalar.select v407 c1_i32_167 c4_i32_165
  let v409 : BitVec 32 := Scalar.remsi v406 v408
  let c0_i32_169 : BitVec 32 := 0#32
  let v411 : BitVec 1 := Scalar.cmpi .slt v409 c0_i32_169
  let c0_i32_170 : BitVec 32 := 0#32
  let v412 : BitVec 1 := Scalar.cmpi .slt v408 c0_i32_170
  let v413 : BitVec 1 := Scalar.xori v411 v412
  let c0_i32_168 : BitVec 32 := 0#32
  let v410 : BitVec 1 := Scalar.cmpi .ne v409 c0_i32_168
  let v414 : BitVec 1 := Scalar.andi v413 v410
  let v415 : BitVec 32 := Scalar.addi v409 v408
  let v416 : BitVec 32 := Scalar.select v414 v415 v409
  let c0_i32_174 : BitVec 32 := 0#32
  let v421 : BitVec 1 := Scalar.cmpi .eq v416 c0_i32_174
  let c3_i32_176 : BitVec 32 := 3#32
  let c1_i32_175 : BitVec 32 := 1#32
  let v422 : BitVec 32 := Scalar.subi v416 c1_i32_175
  let v423 : BitVec 32 := Scalar.select v421 c3_i32_176 v422
  let c4_i32_238 : BitVec 32 := 4#32
  let c0_i32_184 : BitVec 32 := 0#32
  let v424 : BitVec 32 := Scalar.subi v388 v423
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let v442 : BitVec 32 := Scalar.subi v441 c0_i32_184
  let c1_i32_185 : BitVec 32 := 1#32
  let v444 : BitVec 32 := Scalar.divsi v442 c1_i32_185
  let v445 : BitVec 32 := Scalar.muli v444 c1_i32_185
  let v446 : BitVec 32 := Scalar.addi c0_i32_184 v445
  let c1_i32_187 : BitVec 32 := 1#32
  let arg12 : BitVec 32 := Scf.iv v446 c1_i32_187 k0_t2
  let v719 : BitVec 32 := Scalar.muli c4_i32_238 arg12
  let v720 : BitVec 32 := Scalar.addi v423 v719
  let c3_i32_298 : BitVec 32 := 3#32
  let v1054 : BitVec 32 := Scalar.addi v720 c3_i32_298
  let c1024_i32_299 : BitVec 32 := 1024#32
  let v1055 : BitVec 32 := Scalar.muli v1054 c1024_i32_299
  v1055
def k0_mult19 (i : grid0.Coords) : BitVec 32 :=
  let arg1 : BitVec 32 := BitVec.ofNat 32 (i 1).val
  let c128_i32 : BitVec 32 := 128#32
  let v0 : BitVec 32 := Scalar.muli arg1 c128_i32
  let c512_i32_193 : BitVec 32 := 512#32
  let v465 : BitVec 32 := Scalar.subi v0 c512_i32_193
  let c0_i32_194 : BitVec 32 := 0#32
  let v466 : BitVec 32 := Scalar.maxsi v465 c0_i32_194
  v466
def k0_off25 (i : grid0.Coords) : Fin 3 → Nat :=
  let c0_195 : Index := 0#32
  let c0_196 : Index := 0#32
  let arg1 : BitVec 32 := BitVec.ofNat 32 (i 1).val
  let c128_i32 : BitVec 32 := 128#32
  let v0 : BitVec 32 := Scalar.muli arg1 c128_i32
  let c512_i32_193 : BitVec 32 := 512#32
  let v465 : BitVec 32 := Scalar.subi v0 c512_i32_193
  let c0_i32_194 : BitVec 32 := 0#32
  let v466 : BitVec 32 := Scalar.maxsi v465 c0_i32_194
  let v467 : BitVec 32 := v466
  let v471 : Index := Scalar.indexCast v467
  ![0, 0, v471.toNat]
def k0_off26 (i : grid0.Coords) : Fin 3 → Nat :=
  let c0_197 : Index := 0#32
  let c128 : Index := 128#32
  let arg1 : BitVec 32 := BitVec.ofNat 32 (i 1).val
  let c128_i32 : BitVec 32 := 128#32
  let v0 : BitVec 32 := Scalar.muli arg1 c128_i32
  let c512_i32_193 : BitVec 32 := 512#32
  let v465 : BitVec 32 := Scalar.subi v0 c512_i32_193
  let c0_i32_194 : BitVec 32 := 0#32
  let v466 : BitVec 32 := Scalar.maxsi v465 c0_i32_194
  let v467 : BitVec 32 := v466
  let v474 : Index := Scalar.indexCast v467
  ![0, 128, v474.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | "scale" => some ((8⁻¹ * (Real.log 2)⁻¹ : ℝ) : EReal)
  | _ => none
-- ==== Post.lean ====
abbrev S2x8192x1024 : Shape := ⟨3, ![2, 8192, 1024]⟩
abbrev S2x8192x512 : Shape := ⟨3, ![2, 8192, 512]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x8x1x128x1x128 : Shape := ⟨6, ![1, 8, 1, 128, 1, 128]⟩
abbrev S128x8 : Shape := ⟨2, ![128, 8]⟩
abbrev S128x8x64 : Shape := ⟨3, ![128, 8, 64]⟩
abbrev S128x512 : Shape := ⟨2, ![128, 512]⟩
abbrev S1x128x1x512 : Shape := ⟨4, ![1, 128, 1, 512]⟩
abbrev S1x1024 : Shape := ⟨2, ![1, 1024]⟩
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S128x128 : Shape := ⟨2, ![128, 128]⟩
abbrev S1x128x128 : Shape := ⟨3, ![1, 128, 128]⟩
abbrev S128x1024 : Shape := ⟨2, ![128, 1024]⟩
abbrev S1024x512 : Shape := ⟨2, ![1024, 512]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 39
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S1x8x1x128x1x128, .f32⟩
  | .hbm, ⟨15, _⟩ => ⟨S1x8x1x128x1x128, .f32⟩
  | .hbm, ⟨16, _⟩ => ⟨S8x128x128, .f32⟩
  | .hbm, ⟨17, _⟩ => ⟨S128x8, .f32⟩
  | .hbm, ⟨18, _⟩ => ⟨S128x8x64, .f32⟩
  | .hbm, ⟨19, _⟩ => ⟨S128x512, .f32⟩
  | .hbm, ⟨20, _⟩ => ⟨S1x128x1x512, .f32⟩
  | .hbm, ⟨21, _⟩ => ⟨S1x128x1x512, .f32⟩
  | .hbm, ⟨22, _⟩ => ⟨S128x512, .f32⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1024x2816, .bf16⟩
  | .hbm, ⟨27, _⟩ => ⟨S1024x2816, .bf16⟩
  | .hbm, ⟨28, _⟩ => ⟨S2816x1024, .bf16⟩
  | .hbm, ⟨29, _⟩ => ⟨S1x1024, .f32⟩
  | .hbm, ⟨30, _⟩ => ⟨S1x1024, .f32⟩
  | .hbm, ⟨31, _⟩ => ⟨S16384x1024, .f32⟩
  | .hbm, ⟨32, _⟩ => ⟨S2x8192x512, .bf16⟩
  | .hbm, ⟨33, _⟩ => ⟨S16384x512, .bf16⟩
  | .hbm, ⟨34, _⟩ => ⟨S2x8192x512, .bf16⟩
  | .hbm, ⟨35, _⟩ => ⟨S16384x512, .bf16⟩
  | .hbm, ⟨36, _⟩ => ⟨S2x8192x512, .bf16⟩
  | .hbm, ⟨37, _⟩ => ⟨S16384x512, .bf16⟩
  | .hbm, ⟨38, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S8x128x128, .f32⟩
  | .local _ .vmem, ⟨9, _⟩ => ⟨S128x512, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PostReferenceIdeal.lean ====
abbrev S2x8192x1024 : Shape := ⟨3, ![2, 8192, 1024]⟩
abbrev S2x8192x512 : Shape := ⟨3, ![2, 8192, 512]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x64x128x8x64 : Shape := ⟨5, ![2, 64, 128, 8, 64]⟩
abbrev S128x128 : Shape := ⟨2, ![128, 128]⟩
abbrev S_ : Shape := ⟨0, ![]⟩
abbrev S8x2x64x64x128 : Shape := ⟨5, ![8, 2, 64, 64, 128]⟩
abbrev S128x8 : Shape := ⟨2, ![128, 8]⟩
abbrev S1x1x128x8x1 : Shape := ⟨5, ![1, 1, 128, 8, 1]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 115
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S2x64x128x8x64, .f32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S8x128x128, .i1⟩
  | .hbm, ⟨22, _⟩ => ⟨S_, .f32⟩
  | .hbm, ⟨23, _⟩ => ⟨S8x128x128, .f32⟩
  | .hbm, ⟨24, _⟩ => ⟨S8x128x128, .f32⟩
  | .hbm, ⟨25, _⟩ => ⟨S8x2x64x64x128, .f32⟩
  | .hbm, ⟨26, _⟩ => ⟨S2x64x128x8x64, .f32⟩
  | .hbm, ⟨27, _⟩ => ⟨S128x8, .f32⟩
  | .hbm, ⟨28, _⟩ => ⟨S1x1x128x8x1, .f32⟩
  | .hbm, ⟨29, _⟩ => ⟨S2x64x128x8x64, .f32⟩
  | .hbm, ⟨30, _⟩ => ⟨S2x64x128x8x64, .f32⟩
  | .hbm, ⟨31, _⟩ => ⟨S2x8192x512, .f32⟩
  | .hbm, ⟨32, _⟩ => ⟨S2x8192x512, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S_, .f32⟩
  | .hbm, ⟨49, _⟩ => ⟨S2x8192, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1024, .f32⟩
  | .hbm, ⟨55, _⟩ => ⟨S2x8192x1024, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S2x8192x1, .f32⟩
  | .hbm, ⟨60, _⟩ => ⟨S2x8192x1024, .f32⟩
  | .hbm, ⟨61, _⟩ => ⟨S2x8192x1024, .f32⟩
  | .hbm, ⟨62, _⟩ => ⟨S1x1x1024, .f32⟩
  | .hbm, ⟨63, _⟩ => ⟨S2x8192x1024, .f32⟩
  | .hbm, ⟨64, _⟩ => ⟨S2x8192x1024, .f32⟩
  | .hbm, ⟨65, _⟩ => ⟨S1x1x1024, .f32⟩
  | .hbm, ⟨66, _⟩ => ⟨S2x8192x1024, .f32⟩
  | .hbm, ⟨67, _⟩ => ⟨S2x8192x1024, .f32⟩
  | .hbm, ⟨68, _⟩ => ⟨S2x8192x2816, .f32⟩
  | .hbm, ⟨69, _⟩ => ⟨S2x8192x2816, .f32⟩
  | .hbm, ⟨70, _⟩ => ⟨S2x8192x2816, .f32⟩
  | .hbm, ⟨71, _⟩ => ⟨S_, .f32⟩
  | .hbm, ⟨72, _⟩ => ⟨S2x8192x2816, .f32⟩
  | .hbm, ⟨73, _⟩ => ⟨S2x8192x2816, .f32⟩
  | .hbm, ⟨74, _⟩ => ⟨S_, .f32⟩
  | .hbm, ⟨75, _⟩ => ⟨S2x8192x2816, .f32⟩
  | .hbm, ⟨76, _⟩ => ⟨S2x8192x2816, .f32⟩
  | .hbm, ⟨77, _⟩ => ⟨S2x8192x2816, .f32⟩
  | .hbm, ⟨78, _⟩ => ⟨S2x8192x2816, .f32⟩
  | .hbm, ⟨79, _⟩ => ⟨S2x8192x2816, .f32⟩
  | .hbm, ⟨80, _⟩ => ⟨S2x8192x1024, .f32⟩
  | .hbm, ⟨81, _⟩ => ⟨S_, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S_, .f32⟩
  | .hbm, ⟨86, _⟩ => ⟨S2x8192, .f32⟩
  | .hbm, ⟨87, _⟩ => ⟨S2x8192x1, .f32⟩
  | .hbm, ⟨88, _⟩ => ⟨S_, .f32⟩
  | .hbm, ⟨89, _⟩ => ⟨S2x8192x1, .f32⟩
  | .hbm, ⟨90, _⟩ => ⟨S2x8192x1, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S_, .f32⟩
  | .hbm, ⟨95, _⟩ => ⟨S2x8192, .f32⟩
  | .hbm, ⟨96, _⟩ => ⟨S2x8192x1, .f32⟩
  | .hbm, ⟨97, _⟩ => ⟨S_, .f32⟩
  | .hbm, ⟨98, _⟩ => ⟨S2x8192x1, .f32⟩
  | .hbm, ⟨99, _⟩ => ⟨S2x8192x1, .f32⟩
  | .hbm, ⟨100, _⟩ => ⟨S2x8192x1024, .f32⟩
  | .hbm, ⟨101, _⟩ => ⟨S2x8192x1024, .f32⟩
  | .hbm, ⟨102, _⟩ => ⟨S_, .f32⟩
  | .hbm, ⟨103, _⟩ => ⟨S2x8192x1, .f32⟩
  | .hbm, ⟨104, _⟩ => ⟨S2x8192x1, .f32⟩
  | .hbm, ⟨105, _⟩ => ⟨S2x8192x1, .f32⟩
  | .hbm, ⟨106, _⟩ => ⟨S2x8192x1024, .f32⟩
  | .hbm, ⟨107, _⟩ => ⟨S2x8192x1024, .f32⟩
  | .hbm, ⟨108, _⟩ => ⟨S1x1x1024, .f32⟩
  | .hbm, ⟨109, _⟩ => ⟨S2x8192x1024, .f32⟩
  | .hbm, ⟨110, _⟩ => ⟨S2x8192x1024, .f32⟩
  | .hbm, ⟨111, _⟩ => ⟨S1x1x1024, .f32⟩
  | .hbm, ⟨112, _⟩ => ⟨S2x8192x1024, .f32⟩
  | .hbm, ⟨113, _⟩ => ⟨S2x8192x1024, .f32⟩
  | .hbm, ⟨114, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_cst : Ref sig .tc := ⟨.hbm, 22, rfl⟩
abbrev main_call0_v6 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_5 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_6 : Ref sig .tc := ⟨.hbm, 85, rfl⟩
abbrev main_v47 : Ref sig .tc := ⟨.hbm, 86, rfl⟩
abbrev main_v48 : Ref sig .tc := ⟨.hbm, 87, rfl⟩
abbrev main_cst_7 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_8 : Ref sig .tc := ⟨.hbm, 94, rfl⟩
abbrev main_v54 : Ref sig .tc := ⟨.hbm, 95, rfl⟩
abbrev main_v55 : Ref sig .tc := ⟨.hbm, 96, rfl⟩
abbrev main_cst_9 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_10 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩

abbrev nD : Nat := 1
abbrev τ : Topo := Topo.v7x

variable {F : FTy → Type} [FloatOps F]
-- ==== Proof.Safe.lean ====
/-
  A small judgement on pieces of the kernel body. `Safe E X P` says that from the seven inputs of `E` held with
  the contents `X`, and the result's block and the two scratch buffers held with any contents, the program `P`
  runs without fault and leaves the inputs as they were. The rules below read one operation, a conditional,
  a sequence and a loop.
-/
module

public import proofs.«01_k».proof.Proof.Gen.KernelIdeal
public import Idealize.ShloMosaic.Lib.Tactic
public import Idealize.ShloMosaic.Lib.Pipeline.Kit
public import Idealize.ShloMosaic.Lib.Writes
public import Idealize.ShloMosaic.Lib.Scf

@[expose] public section

noncomputable section

namespace Cert.Proof.Safe

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The ten operands of the body, every one a whole buffer. -/
structure Ops where
  a2 : Memref sig .tc .vmem S1x128x512 .bf16
  h2 : a2.IsWhole
  a3 : Memref sig .tc .vmem S1x128x512 .bf16
  h3 : a3.IsWhole
  a4 : Memref sig .tc .vmem S1x128x128 .f32
  h4 : a4.IsWhole
  a5 : Memref sig .tc .vmem S1x128x512 .f32
  h5 : a5.IsWhole
  a6 : Memref sig .tc .vmem S1x256x8192 .bf16
  h6 : a6.IsWhole
  a7 : Memref sig .tc .vmem S1x256x8192 .bf16
  h7 : a7.IsWhole
  a8 : Memref sig .tc .vmem S128x8192 .bf16
  h8 : a8.IsWhole
  a9 : Memref sig .tc .vmem S1x128x512 .bf16
  h9 : a9.IsWhole
  a10 : Memref sig .tc .vmem S128x128 .f32
  h10 : a10.IsWhole
  a11 : Memref sig .tc .vmem S128x128 .f32
  h11 : a11.IsWhole

/-- What the seven inputs hold. -/
structure Inp (F : FTy → Type) where
  x2 : S1x128x512.Idx → Elt F .bf16
  x3 : S1x128x512.Idx → Elt F .bf16
  x4 : S1x128x128.Idx → Elt F .f32
  x5 : S1x128x512.Idx → Elt F .f32
  x6 : S1x256x8192.Idx → Elt F .bf16
  x7 : S1x256x8192.Idx → Elt F .bf16
  x8 : S128x8192.Idx → Elt F .bf16

/-- The operands held whole: the inputs with their contents, the result's block and the scratch with any. -/
def held (c : Dev nD) (E : Ops) (X : Inp F) : sProp 𝕄 :=
  iprop(owns (c : Thread nD τ) E.a2 fullShare X.x2 ∗ owns (c : Thread nD τ) E.a3 fullShare X.x3
    ∗ owns (c : Thread nD τ) E.a4 fullShare X.x4 ∗ owns (c : Thread nD τ) E.a5 fullShare X.x5
    ∗ owns (c : Thread nD τ) E.a6 fullShare X.x6 ∗ owns (c : Thread nD τ) E.a7 fullShare X.x7
    ∗ owns (c : Thread nD τ) E.a8 fullShare X.x8 ∗ (∃ o, owns (c : Thread nD τ) E.a9 fullShare o)
    ∗ (∃ o, owns (c : Thread nD τ) E.a10 fullShare o) ∗ (∃ o, owns (c : Thread nD τ) E.a11 fullShare o))

/-- Programs of the kernel body. -/
abbrev Pr (F : FTy → Type) (α : Type) := Prog (TpuEff nD τ sig (Elt F) Λ₀ .tc) α

/-- The program runs and gives the operands back. -/
def Safe (E : Ops) (X : Inp F) {α : Type} (P : Pr F α) : Prop :=
  ∀ (c : Dev nD) (Q : α → sProp 𝕄),
    iprop(held c E X ∗ (∀ a, held c E X -∗ Q a)) ⊢ wp frame (wpE (defs₀ (F := F)) Variants.none (c : Thread nD τ) none) Set.univ P Q

variable {E : Ops} {X : Inp F} {α β : Type}

theorem safe_ret (a : α) : Safe E X (.ret a : Pr F α) := by
  intro c Q
  rw [wp_ret]
  iintro ⟨H, HQ⟩
  imodintro
  iapply HQ; iexact H

/-- One piece of program after another. -/
theorem safe_bind {P : Pr F α} {k : α → Pr F β} (h₁ : Safe E X P) (h₂ : ∀ a, Safe E X (k a)) : Safe E X (P >>= k) := by
  intro c Q
  rw [wp_bind]
  iintro ⟨H, HQ⟩
  iapply (h₁ c)
  isplitl [H]; · iexact H
  iintro %a H
  iapply (h₂ a c)
  isplitl [H]; · iexact H
  iexact HQ

/-- The contents of a rectangle of a whole array. -/
abbrev ld {sh : Shape} {A : Type} (X : sh.Idx → A) (r : LoadRect sh) : r.shape.Idx → A := fun x => X (r.idx x)

section Loads
variable {sh : Shape} {e : EltTy} {m : Memref sig .tc .vmem sh e}

/-- A load's program continues at what the array holds on the rectangle. -/
theorem owns_load (c : Dev nD) (X : sh.Idx → Elt F e) {r : LoadRect sh} {hl : m.view.LoadsAt r}
    {k : (r.shape.Idx → Elt F e) → Pr F α} {Q : α → sProp 𝕄} :
    owns (c : Thread nD τ) m fullShare X
      ⊢ iprop((owns (c : Thread nD τ) m fullShare X -∗ wp frame (wpE (defs₀ (F := F)) Variants.none c none) Set.univ (k (ld X r)) Q)
        -∗ wp frame (wpE (defs₀ (F := F)) Variants.none c none) Set.univ (.op (.load m r hl) k) Q) := by
  unfold owns
  iintro ⟨%f, %hf, H⟩ HK
  subst hf
  iapply (wp_load (defs := defs₀ (F := F)) Variants.none (c : Thread nD τ) none Set.univ (View.setOn_subset_set _ _)) $$ H
  iintro H
  iapply HK
  iexists f
  isplitr; · ipureintro; rfl
  iexact H

/-- What the whole array holds after a store on a rectangle. -/
theorem read_store (r : Rect sh) (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    change (m.access r).read (Elt F) ((m.access r).write (Elt F) f w Finset.univ) i = r.overlay _ w (r.emb i)
    rw [Rect.overlay_emb, View.read_write_univ]
  · rw [Rect.overlay_of_not_mem _ _ _ hj, View.read_apply, View.read_apply, View.write_of_not_mem]
    show m.view.emb j ∉ (m.view.slice r).set
    rw [View.set_slice, Finset.mem_map' m.view.emb]; exact hj

/-- A store's program continues with the rectangle's part replaced. -/
theorem owns_store (c : Dev nD) (X : sh.Idx → Elt F e) {r : Rect sh} {w : r.shape.Idx → Elt F e}
    {hx : (m.access r).Stores Finset.univ} {hm : (Finset.univ : Finset r.shape.Idx) = Finset.univ ∨ ∀ a, r.stride a = 1}
    {k : PUnit → Pr F α} {Q : α → sProp 𝕄} :
    owns (c : Thread nD τ) m fullShare X
      ⊢ iprop((owns (c : Thread nD τ) m fullShare (r.overlay X w) -∗ wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  unfold owns
  iintro ⟨%f, %hf, H⟩ HK
  subst hf
  iapply (wp_store (defs := defs₀ (F := F)) Variants.none (c : Thread nD τ) none Set.univ (m := m) (r := r) (hx := hx) (hm := hm)
    (S := m.view.set) (f := f) (m.view.set_slice_subset r)) $$ H
  iintro H
  iapply HK
  iexists _
  isplitr
  swap; · iexact H
  ipureintro
  exact read_store r f w

end Loads

/-! ## One operation on one operand -/

theorem load2 {r : LoadRect _} {hl : E.a2.view.LoadsAt r} {k : _ → Pr F β} (h : ∀ v, Safe E X (k v)) :
    Safe E X (.op (.load E.a2 r hl) k) := by
  intro c Q
  unfold held
  iintro ⟨⟨H2, H3, H4, H5, H6, H7, H8, H9, H10, H11⟩, HQ⟩
  iapply (owns_load c X.x2) $$ H2
  iintro H2
  iapply (h _ c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem load3 {r : LoadRect _} {hl : E.a3.view.LoadsAt r} {k : _ → Pr F β} (h : ∀ v, Safe E X (k v)) :
    Safe E X (.op (.load E.a3 r hl) k) := by
  intro c Q
  unfold held
  iintro ⟨⟨H2, H3, H4, H5, H6, H7, H8, H9, H10, H11⟩, HQ⟩
  iapply (owns_load c X.x3) $$ H3
  iintro H3
  iapply (h _ c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem load4 {r : LoadRect _} {hl : E.a4.view.LoadsAt r} {k : _ → Pr F β} (h : ∀ v, Safe E X (k v)) :
    Safe E X (.op (.load E.a4 r hl) k) := by
  intro c Q
  unfold held
  iintro ⟨⟨H2, H3, H4, H5, H6, H7, H8, H9, H10, H11⟩, HQ⟩
  iapply (owns_load c X.x4) $$ H4
  iintro H4
  iapply (h _ c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem load5 {r : LoadRect _} {hl : E.a5.view.LoadsAt r} {k : _ → Pr F β} (h : ∀ v, Safe E X (k v)) :
    Safe E X (.op (.load E.a5 r hl) k) := by
  intro c Q
  unfold held
  iintro ⟨⟨H2, H3, H4, H5, H6, H7, H8, H9, H10, H11⟩, HQ⟩
  iapply (owns_load c X.x5) $$ H5
  iintro H5
  iapply (h _ c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem load6 {r : LoadRect _} {hl : E.a6.view.LoadsAt r} {k : _ → Pr F β} (h : ∀ v, Safe E X (k v)) :
    Safe E X (.op (.load E.a6 r hl) k) := by
  intro c Q
  unfold held
  iintro ⟨⟨H2, H3, H4, H5, H6, H7, H8, H9, H10, H11⟩, HQ⟩
  iapply (owns_load c X.x6) $$ H6
  iintro H6
  iapply (h _ c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem load7 {r : LoadRect _} {hl : E.a7.view.LoadsAt r} {k : _ → Pr F β} (h : ∀ v, Safe E X (k v)) :
    Safe E X (.op (.load E.a7 r hl) k) := by
  intro c Q
  unfold held
  iintro ⟨⟨H2, H3, H4, H5, H6, H7, H8, H9, H10, H11⟩, HQ⟩
  iapply (owns_load c X.x7) $$ H7
  iintro H7
  iapply (h _ c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem load8 {r : LoadRect _} {hl : E.a8.view.LoadsAt r} {k : _ → Pr F β} (h : ∀ v, Safe E X (k v)) :
    Safe E X (.op (.load E.a8 r hl) k) := by
  intro c Q
  unfold held
  iintro ⟨⟨H2, H3, H4, H5, H6, H7, H8, H9, H10, H11⟩, HQ⟩
  iapply (owns_load c X.x8) $$ H8
  iintro H8
  iapply (h _ c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem load9 {r : LoadRect _} {hl : E.a9.view.LoadsAt r} {k : _ → Pr F β} (h : ∀ v, Safe E X (k v)) :
    Safe E X (.op (.load E.a9 r hl) k) := by
  intro c Q
  unfold held
  iintro ⟨⟨H2, H3, H4, H5, H6, H7, H8, H9, H10, H11⟩, HQ⟩
  icases H9 with ⟨%o, H9⟩
  iapply (owns_load c o) $$ H9
  iintro H9
  iapply (h _ c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iexact H11

theorem store9 {r : Rect _} {w : r.shape.Idx → _} {hx : (E.a9.access r).Stores Finset.univ}
    {hm : (Finset.univ : Finset r.shape.Idx) = Finset.univ ∨ ∀ a, r.stride a = 1} {k : PUnit → Pr F β} (h : Safe E X (k ⟨⟩)) :
    Safe E X (.op (.store E.a9 r w Finset.univ hx hm) k) := by
  intro c Q
  unfold held
  iintro ⟨⟨H2, H3, H4, H5, H6, H7, H8, H9, H10, H11⟩, HQ⟩
  icases H9 with ⟨%o, H9⟩
  iapply (owns_store c o) $$ H9
  iintro H9
  iapply (h c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iexact H11

theorem load10 {r : LoadRect _} {hl : E.a10.view.LoadsAt r} {k : _ → Pr F β} (h : ∀ v, Safe E X (k v)) :
    Safe E X (.op (.load E.a10 r hl) k) := by
  intro c Q
  unfold held
  iintro ⟨⟨H2, H3, H4, H5, H6, H7, H8, H9, H10, H11⟩, HQ⟩
  icases H10 with ⟨%o, H10⟩
  iapply (owns_load c o) $$ H10
  iintro H10
  iapply (h _ c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iexact H11

theorem store10 {r : Rect _} {w : r.shape.Idx → _} {hx : (E.a10.access r).Stores Finset.univ}
    {hm : (Finset.univ : Finset r.shape.Idx) = Finset.univ ∨ ∀ a, r.stride a = 1} {k : PUnit → Pr F β} (h : Safe E X (k ⟨⟩)) :
    Safe E X (.op (.store E.a10 r w Finset.univ hx hm) k) := by
  intro c Q
  unfold held
  iintro ⟨⟨H2, H3, H4, H5, H6, H7, H8, H9, H10, H11⟩, HQ⟩
  icases H10 with ⟨%o, H10⟩
  iapply (owns_store c o) $$ H10
  iintro H10
  iapply (h c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iexact H11

theorem load11 {r : LoadRect _} {hl : E.a11.view.LoadsAt r} {k : _ → Pr F β} (h : ∀ v, Safe E X (k v)) :
    Safe E X (.op (.load E.a11 r hl) k) := by
  intro c Q
  unfold held
  iintro ⟨⟨H2, H3, H4, H5, H6, H7, H8, H9, H10, H11⟩, HQ⟩
  icases H11 with ⟨%o, H11⟩
  iapply (owns_load c o) $$ H11
  iintro H11
  iapply (h _ c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

theorem store11 {r : Rect _} {w : r.shape.Idx → _} {hx : (E.a11.access r).Stores Finset.univ}
    {hm : (Finset.univ : Finset r.shape.Idx) = Finset.univ ∨ ∀ a, r.stride a = 1} {k : PUnit → Pr F β} (h : Safe E X (k ⟨⟩)) :
    Safe E X (.op (.store E.a11 r w Finset.univ hx hm) k) := by
  intro c Q
  unfold held
  iintro ⟨⟨H2, H3, H4, H5, H6, H7, H8, H9, H10, H11⟩, HQ⟩
  icases H11 with ⟨%o, H11⟩
  iapply (owns_store c o) $$ H11
  iintro H11
  iapply (h c)
  isplitr [HQ]
  swap; · iexact HQ
  unfold held
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

/-! ## A conditional and a loop -/

/-- A conditional, one of whose branches is what follows it and whose other ends in that. -/
theorem safe_join {p : Prop} {_ : Decidable p} {A : p → Pr F β} {K : Pr F β} (hK : Safe E X K)
    (hA : Safe E X K → ∀ h : p, Safe E X (A h)) : Safe E X (if h : p then A h else K) := by
  by_cases h : p
  · rw [dif_pos h]; exact hA hK h
  · rw [dif_neg h]; exact hK

/-- The same with more of the program behind the conditional. -/
theorem safe_joinB {p : Prop} {_ : Decidable p} {A : p → Pr F α} {K : Pr F α} {k : α → Pr F β} (hK : Safe E X (Prog.bind K k))
    (hA : Safe E X (Prog.bind K k) → ∀ h : p, Safe E X (Prog.bind (A h) k)) : Safe E X (Prog.bind (if h : p then A h else K) k) := by
  by_cases h : p
  · rw [dif_pos h]; exact hA hK h
  · rw [dif_neg h]; exact hK

/-- A conditional of any two branches. -/
theorem safe_dite {p : Prop} {_ : Decidable p} {A : p → Pr F β} {B : ¬p → Pr F β} (hA : ∀ h, Safe E X (A h)) (hB : ∀ h, Safe E X (B h)) :
    Safe E X (if h : p then A h else B h) := by
  by_cases h : p
  · rw [dif_pos h]; exact hA h
  · rw [dif_neg h]; exact hB h

/-- A loop whose every trip is safe. -/
theorem safe_for {w : ℕ} {σ : Type} (lb ub st : BitVec w) (hok : Scf.OK lb ub st) (init : σ) (body : Fin (Scf.trips lb ub st) → σ → Pr F σ)
    (h : ∀ k a, Safe E X (body k a)) : Safe E X (Scf.for lb ub st hok init body) := by
  intro c Q
  iintro ⟨H, HQ⟩
  iapply (Scf.wp_for frame (wpE (defs₀ (F := F)) Variants.none (c : Thread nD τ) none) Set.univ lb ub st hok init body (fun _ _ => held c E X) (fun k a => by
    iintro H
    iapply (h k a c)
    isplitl [H]; · iexact H
    iintro %b H; iexact H))
  isplitl [H]; · iexact H
  iintro %b H
  iapply HQ; iexact H

end Cert.Proof.Safe

end
-- ==== Proof.Straight.lean ====
/-
  The straight pieces of the kernel body: they run and give the operands back.
-/
module

public import proofs.«01_k».proof.Proof.Safe

@[expose] public section

set_option maxRecDepth 4096
set_option maxHeartbeats 4000000

noncomputable section

namespace Cert.Proof.Safe

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {E : Ops} {X : Inp F}

theorem part743 (i)  :
    Safe E X (k0_part743 (F := F) i E.a2 E.h2 E.a3 E.h3 E.a4 E.h4 E.a5 E.h5 E.a6 E.h6 E.a7 E.h7 E.a8 E.h8 E.a9 E.h9 E.a10 E.h10 E.a11 E.h11 ) := by
  unfold k0_part743
  refine load2 (fun _ => ?_)
  exact safe_ret _

theorem part744 (i) (v9) (v12) (v16) (v19) (v23) (v28) (v32) (v37) (v38) :
    Safe E X (k0_part744 (F := F) i E.a2 E.h2 E.a3 E.h3 E.a4 E.h4 E.a5 E.h5 E.a6 E.h6 E.a7 E.h7 E.a8 E.h8 E.a9 E.h9 E.a10 E.h10 E.a11 E.h11 v9 v12 v16 v19 v23 v28 v32 v37 v38) := by
  unfold k0_part744
  refine load3 (fun _ => ?_)
  exact safe_ret _

theorem part745 (i) (v3) (v43) (v49) (v52) (v56) (v59) (v63) (v68) (v72) (v77) (v78) :
    Safe E X (k0_part745 (F := F) i E.a2 E.h2 E.a3 E.h3 E.a4 E.h4 E.a5 E.h5 E.a6 E.h6 E.a7 E.h7 E.a8 E.h8 E.a9 E.h9 E.a10 E.h10 E.a11 E.h11 v3 v43 v49 v52 v56 v59 v63 v68 v72 v77 v78) := by
  unfold k0_part745
  refine load5 (fun _ => ?_)
  exact safe_ret _

theorem part746 (i) (v3) (v93) (v116) (v120) (v122) :
    Safe E X (k0_part746 (F := F) i E.a2 E.h2 E.a3 E.h3 E.a4 E.h4 E.a5 E.h5 E.a6 E.h6 E.a7 E.h7 E.a8 E.h8 E.a9 E.h9 E.a10 E.h10 E.a11 E.h11 v3 v93 v116 v120 v122) := by
  unfold k0_part746
  exact safe_ret _

theorem part747 (i) (v0) (v137) (v141) (v165) (v167) (v169) :
    Safe E X (k0_part747 (F := F) i E.a2 E.h2 E.a3 E.h3 E.a4 E.h4 E.a5 E.h5 E.a6 E.h6 E.a7 E.h7 E.a8 E.h8 E.a9 E.h9 E.a10 E.h10 E.a11 E.h11 v0 v137 v141 v165 v167 v169) := by
  unfold k0_part747
  exact safe_ret _

theorem part755 (i) (v0) (v3) (v83) (c512_i32_193) :
    Safe E X (k0_part755 (F := F) i E.a2 E.h2 E.a3 E.h3 E.a4 E.h4 E.a5 E.h5 E.a6 E.h6 E.a7 E.h7 E.a8 E.h8 E.a9 E.h9 E.a10 E.h10 E.a11 E.h11 v0 v3 v83 c512_i32_193) := by
  unfold k0_part755
  refine load7 (fun _ => ?_)
  refine load7 (fun _ => ?_)
  exact safe_ret _

theorem part756 (i) (v476) (v480) (v485) (v492) (v501) (v509) :
    Safe E X (k0_part756 (F := F) i E.a2 E.h2 E.a3 E.h3 E.a4 E.h4 E.a5 E.h5 E.a6 E.h6 E.a7 E.h7 E.a8 E.h8 E.a9 E.h9 E.a10 E.h10 E.a11 E.h11 v476 v480 v485 v492 v501 v509) := by
  unfold k0_part756
  exact safe_ret _

theorem part757 (i) (v140) (v464) (v476) (v480) (v485) (v492) (v539) (v548) (v557) (v558) :
    Safe E X (k0_part757 (F := F) i E.a2 E.h2 E.a3 E.h3 E.a4 E.h4 E.a5 E.h5 E.a6 E.h6 E.a7 E.h7 E.a8 E.h8 E.a9 E.h9 E.a10 E.h10 E.a11 E.h11 v140 v464 v476 v480 v485 v492 v539 v548 v557 v558) := by
  unfold k0_part757
  refine load4 (fun _ => ?_)
  exact safe_ret _

theorem part758 (i) (v140) (v464) (v588) (v590) (v602) (v606) :
    Safe E X (k0_part758 (F := F) i E.a2 E.h2 E.a3 E.h3 E.a4 E.h4 E.a5 E.h5 E.a6 E.h6 E.a7 E.h7 E.a8 E.h8 E.a9 E.h9 E.a10 E.h10 E.a11 E.h11 v140 v464 v588 v590 v602 v606) := by
  unfold k0_part758
  exact safe_ret _

theorem part759 (i) (v140) (v464) (v588) (v590) (v593) (v607) (v621) (v635) (v649) (v663) (v665) (v666) :
    Safe E X (k0_part759 (F := F) i E.a2 E.h2 E.a3 E.h3 E.a4 E.h4 E.a5 E.h5 E.a6 E.h6 E.a7 E.h7 E.a8 E.h8 E.a9 E.h9 E.a10 E.h10 E.a11 E.h11 v140 v464 v588 v590 v593 v607 v621 v635 v649 v663 v665 v666) := by
  unfold k0_part759
  refine load9 (fun _ => ?_)
  refine store9 ?_
  exact safe_ret _

end Cert.Proof.Safe

end
-- ==== Proof.P748.lean ====
/-
  The comparisons of the block ranking, keys 0 to 2 of the first group, after the scores are laid out and the counts cleared: they run and give the operands back.
-/
module

public import proofs.«01_k».proof.Proof.Safe

@[expose] public section

set_option maxRecDepth 4096
set_option maxHeartbeats 4000000

noncomputable section

namespace Cert.Proof.Safe

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {E : Ops} {X : Inp F}

theorem part748 (i) (v198) (v219) (c512) (v220) (c0) :
    Safe E X (k0_part748 (F := F) i E.a2 E.h2 E.a3 E.h3 E.a4 E.h4 E.a5 E.h5 E.a6 E.h6 E.a7 E.h7 E.a8 E.h8 E.a9 E.h9 E.a10 E.h10 E.a11 E.h11 v198 v219 c512 v220 c0) := by
  unfold k0_part748
  refine load10 (fun _ => ?_)
  refine store10 ?_
  refine load11 (fun _ => ?_)
  refine store11 ?_
  iterate 3
    refine safe_join ?_ (fun hK h => ?_)
    on_goal 2 =>
      iterate 1 ((iterate 5 refine load10 (fun _ => ?_)); (iterate 4 refine load11 (fun _ => ?_)); (iterate 4 (refine load11 (fun _ => ?_); refine store11 ?_)))
      iterate 2
        first | refine safe_joinB ?_ (fun hK h => ?_) | refine safe_join ?_ (fun hK h => ?_)
        on_goal 2 => ((iterate 5 refine load10 (fun _ => ?_)); (iterate 4 refine load11 (fun _ => ?_)); (iterate 4 (refine load11 (fun _ => ?_); refine store11 ?_)); exact hK)
      refine safe_join hK (fun hK h => ?_)
      (iterate 5 refine load10 (fun _ => ?_)); (iterate 4 refine load11 (fun _ => ?_)); (iterate 4 (refine load11 (fun _ => ?_); refine store11 ?_))
      exact hK
  exact safe_ret _

end Cert.Proof.Safe

end
-- ==== Proof.P749.lean ====
/-
  The comparisons of the block ranking, keys 3 to 12 of the first group: they run and give the operands back.
-/
module

public import proofs.«01_k».proof.Proof.Safe

@[expose] public section

set_option maxRecDepth 4096
set_option maxHeartbeats 4000000

noncomputable section

namespace Cert.Proof.Safe

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {E : Ops} {X : Inp F}

theorem part749 (i) (n : BitVec 32) (io) (cc : BitVec 32) : Safe E X (k0_part749 (F := F) i E.a2 E.h2 E.a3 E.h3 E.a4 E.h4 E.a5 E.h5 E.a6 E.h6 E.a7 E.h7 E.a8 E.h8 E.a9 E.h9 E.a10 E.h10 E.a11 E.h11 n io cc) := by
  unfold k0_part749
  iterate 1
    refine safe_join ?_ (fun hK h => ?_)
    on_goal 2 =>
      iterate 1 ((iterate 5 refine load10 (fun _ => ?_)); (iterate 4 refine load11 (fun _ => ?_)); (iterate 4 (refine load11 (fun _ => ?_); refine store11 ?_)))
      iterate 2
        first | refine safe_joinB ?_ (fun hK h => ?_) | refine safe_join ?_ (fun hK h => ?_)
        on_goal 2 => ((iterate 5 refine load10 (fun _ => ?_)); (iterate 4 refine load11 (fun _ => ?_)); (iterate 4 (refine load11 (fun _ => ?_); refine store11 ?_)); exact hK)
      refine safe_join hK (fun hK h => ?_)
      (iterate 5 refine load10 (fun _ => ?_)); (iterate 4 refine load11 (fun _ => ?_)); (iterate 4 (refine load11 (fun _ => ?_); refine store11 ?_))
      exact hK
  iterate 4
    refine safe_join ?_ (fun hK h => ?_)
    on_goal 2 =>
      iterate 2 ((iterate 5 refine load10 (fun _ => ?_)); (iterate 4 refine load11 (fun _ => ?_)); (iterate 4 (refine load11 (fun _ => ?_); refine store11 ?_)))
      iterate 1
        first | refine safe_joinB ?_ (fun hK h => ?_) | refine safe_join ?_ (fun hK h => ?_)
        on_goal 2 => ((iterate 5 refine load10 (fun _ => ?_)); (iterate 4 refine load11 (fun _ => ?_)); (iterate 4 (refine load11 (fun _ => ?_); refine store11 ?_)); exact hK)
      refine safe_join hK (fun hK h => ?_)
      (iterate 5 refine load10 (fun _ => ?_)); (iterate 4 refine load11 (fun _ => ?_)); (iterate 4 (refine load11 (fun _ => ?_); refine store11 ?_))
      exact hK
  iterate 4
    refine safe_join ?_ (fun hK h => ?_)
    on_goal 2 =>
      iterate 3 ((iterate 5 refine load10 (fun _ => ?_)); (iterate 4 refine load11 (fun _ => ?_)); (iterate 4 (refine load11 (fun _ => ?_); refine store11 ?_)))
      refine safe_join hK (fun hK h => ?_)
      (iterate 5 refine load10 (fun _ => ?_)); (iterate 4 refine load11 (fun _ => ?_)); (iterate 4 (refine load11 (fun _ => ?_); refine store11 ?_))
      exact hK
  iterate 1
    refine safe_join ?_ (fun hK h => ?_)
    on_goal 2 =>
      iterate 4 ((iterate 5 refine load10 (fun _ => ?_)); (iterate 4 refine load11 (fun _ => ?_)); (iterate 4 (refine load11 (fun _ => ?_); refine store11 ?_)))
      exact hK
  exact safe_ret _

end Cert.Proof.Safe

end
-- ==== Proof.P750.lean ====
/-
  The comparisons of the block ranking, keys 13 to 15 of the first group and 0 to 1 of the second: they run and give the operands back.
-/
module

public import proofs.«01_k».proof.Proof.Safe

@[expose] public section

set_option maxRecDepth 4096
set_option maxHeartbeats 4000000

noncomputable section

namespace Cert.Proof.Safe

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {E : Ops} {X : Inp F}

theorem part750 (i) (v167) (v217) (v237) (v246) (v287) :
    Safe E X (k0_part750 (F := F) i E.a2 E.h2 E.a3 E.h3 E.a4 E.h4 E.a5 E.h5 E.a6 E.h6 E.a7 E.h7 E.a8 E.h8 E.a9 E.h9 E.a10 E.h10 E.a11 E.h11 v167 v217 v237 v246 v287) := by
  unfold k0_part750
  iterate 3
    refine safe_join ?_ (fun hK h => ?_)
    on_goal 2 =>
      iterate 4 ((iterate 5 refine load10 (fun _ => ?_)); (iterate 4 refine load11 (fun _ => ?_)); (iterate 4 (refine load11 (fun _ => ?_); refine store11 ?_)))
      exact hK
  refine load11 (fun _ => ?_)
  refine load10 (fun _ => ?_)
  refine store10 ?_
  refine load11 (fun _ => ?_)
  refine store11 ?_
  iterate 2
    refine safe_join ?_ (fun hK h => ?_)
    on_goal 2 =>
      iterate 1 ((iterate 5 refine load10 (fun _ => ?_)); (iterate 4 refine load11 (fun _ => ?_)); (iterate 4 (refine load11 (fun _ => ?_); refine store11 ?_)))
      iterate 2
        first | refine safe_joinB ?_ (fun hK h => ?_) | refine safe_join ?_ (fun hK h => ?_)
        on_goal 2 => ((iterate 5 refine load10 (fun _ => ?_)); (iterate 4 refine load11 (fun _ => ?_)); (iterate 4 (refine load11 (fun _ => ?_); refine store11 ?_)); exact hK)
      refine safe_join hK (fun hK h => ?_)
      (iterate 5 refine load10 (fun _ => ?_)); (iterate 4 refine load11 (fun _ => ?_)); (iterate 4 (refine load11 (fun _ => ?_); refine store11 ?_))
      exact hK
  exact safe_ret _

end Cert.Proof.Safe

end
-- ==== Proof.P751.lean ====
/-
  The comparisons of the block ranking, keys 2 to 11 of the second group: they run and give the operands back.
-/
module

public import proofs.«01_k».proof.Proof.Safe

@[expose] public section

set_option maxRecDepth 4096
set_option maxHeartbeats 4000000

noncomputable section

namespace Cert.Proof.Safe

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {E : Ops} {X : Inp F}

theorem part751 (i) (v237) (v312) (v320) :
    Safe E X (k0_part751 (F := F) i E.a2 E.h2 E.a3 E.h3 E.a4 E.h4 E.a5 E.h5 E.a6 E.h6 E.a7 E.h7 E.a8 E.h8 E.a9 E.h9 E.a10 E.h10 E.a11 E.h11 v237 v312 v320) := by
  unfold k0_part751
  iterate 2
    refine safe_join ?_ (fun hK h => ?_)
    on_goal 2 =>
      iterate 1 ((iterate 5 refine load10 (fun _ => ?_)); (iterate 4 refine load11 (fun _ => ?_)); (iterate 4 (refine load11 (fun _ => ?_); refine store11 ?_)))
      iterate 2
        first | refine safe_joinB ?_ (fun hK h => ?_) | refine safe_join ?_ (fun hK h => ?_)
        on_goal 2 => ((iterate 5 refine load10 (fun _ => ?_)); (iterate 4 refine load11 (fun _ => ?_)); (iterate 4 (refine load11 (fun _ => ?_); refine store11 ?_)); exact hK)
      refine safe_join hK (fun hK h => ?_)
      (iterate 5 refine load10 (fun _ => ?_)); (iterate 4 refine load11 (fun _ => ?_)); (iterate 4 (refine load11 (fun _ => ?_); refine store11 ?_))
      exact hK
  iterate 4
    refine safe_join ?_ (fun hK h => ?_)
    on_goal 2 =>
      iterate 2 ((iterate 5 refine load10 (fun _ => ?_)); (iterate 4 refine load11 (fun _ => ?_)); (iterate 4 (refine load11 (fun _ => ?_); refine store11 ?_)))
      iterate 1
        first | refine safe_joinB ?_ (fun hK h => ?_) | refine safe_join ?_ (fun hK h => ?_)
        on_goal 2 => ((iterate 5 refine load10 (fun _ => ?_)); (iterate 4 refine load11 (fun _ => ?_)); (iterate 4 (refine load11 (fun _ => ?_); refine store11 ?_)); exact hK)
      refine safe_join hK (fun hK h => ?_)
      (iterate 5 refine load10 (fun _ => ?_)); (iterate 4 refine load11 (fun _ => ?_)); (iterate 4 (refine load11 (fun _ => ?_); refine store11 ?_))
      exact hK
  iterate 4
    refine safe_join ?_ (fun hK h => ?_)
    on_goal 2 =>
      iterate 3 ((iterate 5 refine load10 (fun _ => ?_)); (iterate 4 refine load11 (fun _ => ?_)); (iterate 4 (refine load11 (fun _ => ?_); refine store11 ?_)))
      refine safe_join hK (fun hK h => ?_)
      (iterate 5 refine load10 (fun _ => ?_)); (iterate 4 refine load11 (fun _ => ?_)); (iterate 4 (refine load11 (fun _ => ?_); refine store11 ?_))
      exact hK
  exact safe_ret _

end Cert.Proof.Safe

end
-- ==== Proof.P752.lean ====
/-
  The comparisons of the block ranking, keys 12 to 15 of the second group: they run and give the operands back.
-/
module

public import proofs.«01_k».proof.Proof.Safe

@[expose] public section

set_option maxRecDepth 4096
set_option maxHeartbeats 4000000

noncomputable section

namespace Cert.Proof.Safe

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {E : Ops} {X : Inp F}

theorem part752 (i) (v0) (v83) (v167) (v237) (v303) (v312) (v350) :
    Safe E X (k0_part752 (F := F) i E.a2 E.h2 E.a3 E.h3 E.a4 E.h4 E.a5 E.h5 E.a6 E.h6 E.a7 E.h7 E.a8 E.h8 E.a9 E.h9 E.a10 E.h10 E.a11 E.h11 v0 v83 v167 v237 v303 v312 v350) := by
  unfold k0_part752
  iterate 4
    refine safe_join ?_ (fun hK h => ?_)
    on_goal 2 =>
      iterate 4 ((iterate 5 refine load10 (fun _ => ?_)); (iterate 4 refine load11 (fun _ => ?_)); (iterate 4 (refine load11 (fun _ => ?_); refine store11 ?_)))
      exact hK
  refine load11 (fun _ => ?_)
  exact safe_ret _

end Cert.Proof.Safe

end
-- ==== Proof.Tiles.lean ====
/-
  The conditional on the number of selected tiles and the two loops over the tiles: they run and give the operands back.
-/
module

public import proofs.«01_k».proof.Proof.Safe

@[expose] public section

set_option maxRecDepth 4096
set_option maxHeartbeats 4000000

noncomputable section

namespace Cert.Proof.Safe

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {E : Ops} {X : Inp F}

theorem part711 (i) (v3) (v371) (v388) (v395) (v396) (v397) (v398) (v399) (v400) (v401) (v402) (v403) (v404) (v405) (k0_h81) (k0_h82) (k0_h83) :
    Safe E X (k0_part711 (F := F) i E.a2 E.h2 E.a3 E.h3 E.a4 E.h4 E.a5 E.h5 E.a6 E.h6 E.a7 E.h7 E.a8 E.h8 E.a9 E.h9 E.a10 E.h10 E.a11 E.h11 v3 v371 v388 v395 v396 v397 v398 v399 v400 v401 v402 v403 v404 v405 k0_h81 k0_h82 k0_h83) := by
  unfold k0_part711
  refine safe_bind (load8 fun _ => load6 fun _ => safe_ret _) (fun a => ?_)
  split
  refine safe_bind (safe_ret _) (fun a => ?_)
  split
  refine safe_bind (load6 fun _ => load6 fun _ => load8 fun _ => load6 fun _ => safe_ret _) (fun a => ?_)
  split
  refine safe_bind (safe_ret _) (fun a => ?_)
  split
  refine safe_bind (load6 fun _ => load6 fun _ => load8 fun _ => load6 fun _ => safe_ret _) (fun a => ?_)
  split
  refine safe_bind (safe_ret _) (fun a => ?_)
  split
  exact (load6 fun _ => load6 fun _ => safe_ret _)

theorem part753 (i) (v3) (v371) (v372) (v386) (v387) :
    Safe E X (k0_part753 (F := F) i E.a2 E.h2 E.a3 E.h3 E.a4 E.h4 E.a5 E.h5 E.a6 E.h6 E.a7 E.h7 E.a8 E.h8 E.a9 E.h9 E.a10 E.h10 E.a11 E.h11 v3 v371 v372 v386 v387) := by
  unfold k0_part753
  extract_lets
  refine safe_dite (fun h => safe_dite (fun h => safe_dite (fun h => ?_) (fun h => ?_)) (fun h => ?_)) (fun h => ?_)
  · refine safe_bind ?_ (fun a => ?_)
    · exact part711 _ _ _ _ _ _ _ _ _ _ _ _ _ _ _ _ _ _
    split
    exact safe_ret _
  · refine safe_bind (load8 fun _ => load6 fun _ => safe_ret _) (fun a => ?_)
    split
    refine safe_bind (safe_ret _) (fun a => ?_)
    split
    refine safe_bind (load6 fun _ => load6 fun _ => load8 fun _ => load6 fun _ => safe_ret _) (fun a => ?_)
    split
    refine safe_bind (safe_ret _) (fun a => ?_)
    split
    exact (load6 fun _ => load6 fun _ => safe_ret _)
  · refine safe_bind (load8 fun _ => load6 fun _ => safe_ret _) (fun a => ?_)
    split
    refine safe_bind (safe_ret _) (fun a => ?_)
    split
    exact (load6 fun _ => load6 fun _ => safe_ret _)
  · refine safe_bind (load8 fun _ => load6 fun _ => safe_ret _) (fun a => ?_)
    split
    refine safe_bind (safe_ret _) (fun a => ?_)
    split
    refine safe_bind (load6 fun _ => load6 fun _ => load8 fun _ => load6 fun _ => safe_ret _) (fun a => ?_)
    split
    refine safe_bind (safe_ret _) (fun a => ?_)
    split
    refine safe_bind (load6 fun _ => load6 fun _ => load8 fun _ => load6 fun _ => safe_ret _) (fun a => ?_)
    split
    refine safe_bind (safe_ret _) (fun a => ?_)
    split
    refine safe_bind (load6 fun _ => load6 fun _ => load8 fun _ => safe_ret _) (fun a => ?_)
    split
    refine safe_bind (load6 fun _ => safe_ret _) (fun a => ?_)
    split
    refine safe_bind (load6 fun _ => load6 fun _ => safe_ret _) (fun a => ?_)
    split
    exact (safe_ret _)

theorem part754 (i) (v371) (v388) (v395) (v420_0) (v420_1) (v420_2) (v420_3) (v420_4) (v420_5) (v420_6) (v420_7) (v420_8) (v420_9) (v421) (v422) :
    Safe E X (k0_part754 (F := F) i E.a2 E.h2 E.a3 E.h3 E.a4 E.h4 E.a5 E.h5 E.a6 E.h6 E.a7 E.h7 E.a8 E.h8 E.a9 E.h9 E.a10 E.h10 E.a11 E.h11 v371 v388 v395 v420_0 v420_1 v420_2 v420_3 v420_4 v420_5 v420_6 v420_7 v420_8 v420_9 v421 v422) := by
  unfold k0_part754
  refine safe_bind (safe_for _ _ _ _ _ _ fun k a => ?_) (fun a => ?_)
  · split
    refine safe_bind (load8 fun _ => load6 fun _ => safe_ret _) (fun a => ?_)
    split
    refine safe_bind (load6 fun _ => safe_ret _) (fun a => ?_)
    split
    refine safe_bind (load6 fun _ => load8 fun _ => load6 fun _ => safe_ret _) (fun a => ?_)
    split
    refine safe_bind (safe_ret _) (fun a => ?_)
    split
    refine safe_bind (load6 fun _ => load6 fun _ => load8 fun _ => load6 fun _ => safe_ret _) (fun a => ?_)
    split
    refine safe_bind (safe_ret _) (fun a => ?_)
    split
    refine safe_bind (load6 fun _ => load6 fun _ => load8 fun _ => load6 fun _ => safe_ret _) (fun a => ?_)
    split
    refine safe_bind (safe_ret _) (fun a => ?_)
    split
    exact (load6 fun _ => load6 fun _ => safe_ret _)
  split
  refine safe_bind (safe_for _ _ _ _ _ _ fun k a => ?_) (fun a => ?_)
  · split
    refine safe_bind (load8 fun _ => load6 fun _ => safe_ret _) (fun a => ?_)
    split
    refine safe_bind (load6 fun _ => safe_ret _) (fun a => ?_)
    split
    refine safe_bind (load6 fun _ => load8 fun _ => load6 fun _ => safe_ret _) (fun a => ?_)
    split
    refine safe_bind (safe_ret _) (fun a => ?_)
    split
    refine safe_bind (load6 fun _ => load6 fun _ => load8 fun _ => load6 fun _ => safe_ret _) (fun a => ?_)
    split
    refine safe_bind (safe_ret _) (fun a => ?_)
    split
    refine safe_bind (load6 fun _ => load6 fun _ => load8 fun _ => load6 fun _ => safe_ret _) (fun a => ?_)
    split
    refine safe_bind (safe_ret _) (fun a => ?_)
    split
    exact (load6 fun _ => load6 fun _ => safe_ret _)
  split
  exact safe_ret _

end Cert.Proof.Safe

end
-- ==== Proof.Body.lean ====
/-
  The kernel body gives its operands back; the launch of the kernel and its frame, at any float values.
-/
module

public import proofs.«01_k».proof.Proof.Straight
public import proofs.«01_k».proof.Proof.P748
public import proofs.«01_k».proof.Proof.P749
public import proofs.«01_k».proof.Proof.P750
public import proofs.«01_k».proof.Proof.P751
public import proofs.«01_k».proof.Proof.P752
public import proofs.«01_k».proof.Proof.Tiles
public import proofs.«01_k».proof.Proof.Gen.KernelIdeal.Frame
public import Idealize.ShloMosaic.Lib.Claim

@[expose] public section

set_option maxRecDepth 4096
set_option maxHeartbeats 4000000

noncomputable section

namespace Cert.Proof.Safe

open Cert.KernelIdeal.Gen
open Idealize.ShloMosaic.Pipeline (Dat Cfg Window BodyObligation cellOf)
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {E : Ops} {X : Inp F}

/-- The whole body runs and gives the operands back. -/
theorem safe_body (i) : Safe E X (cc0_nsa_prompt (F := F) i E.a2 E.h2 E.a3 E.h3 E.a4 E.h4 E.a5 E.h5 E.a6 E.h6 E.a7 E.h7 E.a8 E.h8 E.a9 E.h9 E.a10 E.h10 E.a11 E.h11) := by
  unfold cc0_nsa_prompt
  refine safe_bind (part743 _) (fun a => ?_)
  split
  refine safe_bind (part744 _ _ _ _ _ _ _ _ _ _) (fun a => ?_)
  split
  refine safe_bind (part745 _ _ _ _ _ _ _ _ _ _ _ _) (fun a => ?_)
  split
  refine safe_bind (part746 _ _ _ _ _ _) (fun a => ?_)
  split
  refine safe_bind (part747 _ _ _ _ _ _ _) (fun a => ?_)
  split
  refine safe_bind (part748 _ _ _ _ _ _) (fun a => ?_)
  split
  refine safe_bind (part749 _ _ _ _) (fun a => ?_)
  refine safe_bind (part750 _ _ _ _ _ _) (fun a => ?_)
  split
  refine safe_bind (part751 _ _ _ _) (fun a => ?_)
  refine safe_bind (part752 _ _ _ _ _ _ _ _) (fun a => ?_)
  split
  refine safe_bind (part753 _ _ _ _ _ _) (fun a => ?_)
  split
  refine safe_bind (part754 _ _ _ _ _ _ _ _ _ _ _ _ _ _ _ _) (fun a => ?_)
  split
  refine safe_bind (part755 _ _ _ _ _) (fun a => ?_)
  split
  refine safe_bind (part756 _ _ _ _ _ _ _) (fun a => ?_)
  split
  refine safe_bind (part757 _ _ _ _ _ _ _ _ _ _ _) (fun a => ?_)
  split
  refine safe_bind (part758 _ _ _ _ _ _ _) (fun a => ?_)
  split
  exact safe_bind (part759 _ _ _ _ _ _ _ _ _ _ _ _ _) (fun a => safe_ret _)

end Cert.Proof.Safe

end
-- ==== Proof.Frames.lean ====
/-
  The kernel body gives its operands back; the launch of the kernel and its frame, at any float values.
-/
module

public import proofs.«01_k».proof.Proof.Body
public import proofs.«01_k».proof.Proof.Gen.KernelIdeal.Frame
public import Idealize.ShloMosaic.Lib.Claim

@[expose] public section

set_option maxRecDepth 4096
set_option maxHeartbeats 4000000

noncomputable section

namespace Cert.Proof.Safe

open Cert.KernelIdeal.Gen
open Idealize.ShloMosaic.Pipeline (Dat Cfg Window BodyObligation cellOf)
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {E : Ops} {X : Inp F}

local notation "𝕄" => MT nD τ sig Unit (Elt F) ℕ (UR sig nD τ) ℕ

variable (m : (ℓ : Loc nD τ sig) → Buf (Elt F) ℓ) (ρ : Dev nD → PrngReg)

/-- The proof data of the one pipeline: the arrays as the region finds them, each input's buffer left at its block,
    nothing said of the result's (the window is forgotten below); the two scratch buffers and the generator
    register with any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

/-- The result's window. -/
abbrev fgt (w : Fin cfg0.W) : Bool := w.val == 7

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d))

/-- The operands of the body at point `t`. -/
def opsAt (t : Fin cfg0.N) : Ops where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := Memref.whole cc0_scratch0
  h10 := Memref.isWhole_whole _
  a11 := Memref.whole cc0_scratch1
  h11 := Memref.isWhole_whole _

/-- What the inputs hold at point `t`. -/
def inpAt (c : Dev nD) (t : Fin cfg0.N) : Inp F where
  x2 := iblk m c 0 t
  x3 := iblk m c 1 t
  x4 := iblk m c 2 t
  x5 := iblk m c 3 t
  x6 := iblk m c 4 t
  x7 := iblk m c 5 t
  x8 := iblk m c 6 t

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6,
    show (dats m 0 c).Φ t.castSucc = Pipeline.ΦA spec0 c from rfl]
  unfold Pipeline.ΦA
  rw [scopedRest0_eq]
  iintro ⟨⟨⟨⟨%f0, S0⟩, ⟨%f1, S1⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (safe_body (E := opsAt t) (X := inpAt m c t) (grid0.coords t) c)
  isplitr [HP Ho]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]
    · iexists f0
      iapply (Entails.of_eq (owns_whole (c : Thread nD τ) cc0_scratch0 fullShare f0).symm) $$ S0
    iexists f1
    iapply (Entails.of_eq (owns_whole (c : Thread nD τ) cc0_scratch1 fullShare f1).symm) $$ S1
  iintro %_ H
  unfold held
  icases H with ⟨H0, H1, H2, H3, H4, H5, H6, H7, ⟨%e0, S0⟩, ⟨%e1, S1⟩⟩
  isplitl [S0 S1 HP]
  · isplitr [HP]
    · isplitl [S0]
      · iexists e0
        iapply (show owns (c : Thread nD τ) (opsAt t).a10 fullShare e0 ⊢ ((c : Thread nD τ).loc cc0_scratch0 ↦{fullShare} e0 : sProp 𝕄) from Entails.of_eq (owns_whole (c : Thread nD τ) cc0_scratch0 fullShare e0)) $$ S0
      iexists e1
      iapply (show owns (c : Thread nD τ) (opsAt t).a11 fullShare e1 ⊢ ((c : Thread nD τ).loc cc0_scratch1 ↦{fullShare} e1 : sProp 𝕄) from Entails.of_eq (owns_whole (c : Thread nD τ) cc0_scratch1 fullShare e1)) $$ S1
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every buffer the kernel does not stage is left as the region found it, and the counters are zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩) (run_main m ρ)

end Cert.Proof.Safe

end
-- ==== Proof.PostSpec.lean ====
/-
  One row of the layer after its attention, over the extended reals: the attention's output and the gate's beside it
  through the output weights, and the residual feed-forward part with its two layer norms.
-/
module

public import Idealize.ShloMosaic.PureOps.Ideal
public import Idealize.ShloMosaic.Lib.Pointwise

@[expose] public section

noncomputable section

namespace Cert.Proof.Post

open Idealize.ShloMosaic

/-- The residual's weight, the fourth root of twice the depth. -/
abbrev alpha : EReal := Ideal.ofBits .f32 0x3FB504F3#32

/-- The mean of a row of 1024. -/
def mean (z : Fin 1024 → EReal) : EReal := Ideal.div (∑ k, z k) (Ideal.ofBits .f32 0x44800000#32)

/-- A row normalised, scaled and shifted. -/
def norm (g b z : Fin 1024 → EReal) (j : Fin 1024) : EReal :=
  (z j - mean z) * Ideal.rsqrt (mean (fun k => (z k - mean z) * (z k - mean z)) + Ideal.ofBits .f32 0x3727C5AC#32) * g j + b j

/-- The hidden units of the feed-forward part. -/
def hidden (wg wu : Fin 1024 → Fin 2816 → EReal) (x : Fin 1024 → EReal) (k : Fin 2816) : EReal :=
  (∑ d, x d * wg d k) * Ideal.logistic (∑ d, x d * wg d k) * ∑ d, x d * wu d k

/-- The row after the first norm. -/
def inner (g b x h : Fin 1024 → EReal) : Fin 1024 → EReal := norm g b fun j => alpha * x j + h j

/-- The row after the second norm. -/
def outer (wg wu : Fin 1024 → Fin 2816 → EReal) (wd : Fin 2816 → Fin 1024 → EReal) (g b x : Fin 1024 → EReal) :
    Fin 1024 → EReal :=
  norm g b fun j => alpha * x j + ∑ k, hidden wg wu x k * wd k j

/-- The gate at row t of a chunk of 128 rows, lane d: the chunk's values mixed causally by the lane's head. -/
def gated (ws : Fin 8 → Fin 128 → Fin 128 → EReal) (v : Fin 128 → Fin 512 → EReal) (b u : EReal) (t : Fin 128) (d : Fin 512) :
    EReal :=
  u * ((∑ s : Fin 128, (if s ≤ t then ws ⟨d.val / 64, by omega⟩ t s else 0) * v s d) + b)

/-- The attention's output and the gate's, side by side, through the output weights. -/
def projected (o m : Fin 512 → EReal) (w : Fin 1024 → Fin 1024 → EReal) (j : Fin 1024) : EReal :=
  (∑ k : Fin 512, o k * w ⟨k.val, by omega⟩ j) + ∑ k : Fin 512, m k * w ⟨512 + k.val, by omega⟩ j

end Cert.Proof.Post

end
-- ==== Proof.PostKernel.lean ====
/-
  What the kernel's block of 512 rows holds: row by row, the row functions of PostSpec.lean of the blocks it reads.
-/
module

public import proofs.«01_k».proof.Proof.Gen.PostIdeal.Value
public import proofs.«01_k».proof.Proof.PostSpec

@[expose] public section

noncomputable section

namespace Cert.Proof.Post

open Cert.PostIdeal Cert.PostIdeal.Gen Idealize.ShloMosaic

/-- The causal mask, as the kernel compares positions of chunks of 128. -/
def causal : IVec S128x128 1 := k0_pay7 k0_pay1 k0_pay2 k0_pay3 k0_pay4 k0_pay5 k0_pay6

set_option maxRecDepth 16384 in
theorem causal_apply (t s : Fin 128) : causal (ix2 t s) = if s ≤ t then 1#1 else 0#1 := by
  pointwise [causal, k0_pay7, k0_pay1, k0_pay2, k0_pay3, k0_pay4, k0_pay5, k0_pay6]
  revert t s
  decide +kernel

theorem lane_apply (r : Fin 128) (j : Fin 512) :
    k0_pay15 (ix2 r j) = BitVec.ofNat 32 (j.val / 64) := by
  pointwise [k0_pay15]
  revert j
  decide +kernel

/-- One chunk of values laid out head under head, each head's rows zero outside its own lanes. -/
def diagonal (v : FVec Ideal S128x512 .bf16) : FVec Ideal S1024x512 .bf16 :=
  let part (h : BitVec 32) : FVec Ideal S128x512 .bf16 :=
    select (cmpi .eq k0_pay15 (broadcast S128x512 h)) (shapeCast S128x512 v shapeCasts_S128x512_S128x512)
      (broadcast S128x512 (Scalar.truncf (F := Ideal) .bf16 bitsLt_bf16_f32 (Scalar.ofBits .f32 0x00000000#32)))
  concatenate S1024x512 0 [⟨S128x512, part 0#32⟩, ⟨S128x512, part 1#32⟩, ⟨S128x512, part 2#32⟩, ⟨S128x512, part 3#32⟩,
    ⟨S128x512, part 4#32⟩, ⟨S128x512, part 5#32⟩, ⟨S128x512, part 6#32⟩, ⟨S128x512, part 7#32⟩]
    concatenates_S128x512_S128x512_S128x512_S128x512_S128x512_S128x512_S128x512_S128x512_S1024x512_d0

/-- One chunk of the gate: the mixed values and their bias, times u. -/
def gate (w : FVec Ideal S128x1024 .bf16) (v : FVec Ideal S128x512 .bf16) (b : FVec Ideal S128x512 .f32)
    (u : FVec Ideal S128x512 .bf16) : FVec Ideal S128x512 .f32 :=
  mulf (extf .f32 (shapeCast S128x512 u shapeCasts_S128x512_S128x512) bitsLt_bf16_f32)
    (addf (matmul dot_S128x1024_S1024x512_S128x512_1_0_0_1_n_n none w (diagonal v) (constant S128x512 .f32 0x00000000#32))
      (shapeCast S128x512 b shapeCasts_S128x512_S128x512))

/-- The gate's four chunks, beside the attention's output, through the output weights. -/
def project (g0 g1 g2 g3 : FVec Ideal S128x512 .f32) (o : FVec Ideal S512x512 .bf16) (w : FVec Ideal S1024x1024 .bf16) :
    FVec Ideal S512x1024 .f32 :=
  matmul dot_S512x1024_S1024x1024_S512x1024_1_0_0_1_n_n none
    (truncf .bf16 (concatenate S512x1024 1
      [⟨S512x512, extf .f32 (shapeCast S512x512 o shapeCasts_S512x512_S512x512) bitsLt_bf16_f32⟩,
       ⟨S512x512, concatenate S512x512 0 [⟨S128x512, g0⟩, ⟨S128x512, g1⟩, ⟨S128x512, g2⟩, ⟨S128x512, g3⟩]
         concatenates_S128x512_S128x512_S128x512_S128x512_S512x512_d0⟩]
      concatenates_S512x512_S512x512_S512x1024_d1) bitsLt_bf16_f32)
    (shapeCast S1024x1024 w shapeCasts_S1024x1024_S1024x1024) (constant S512x1024 .f32 0x00000000#32)

variable (x0 : Vec Ideal S512x1024 .f32) (x1 : Vec Ideal S512x512 .bf16) (x2 : Vec Ideal S512x512 .bf16) (x3 : Vec Ideal S512x512 .bf16) (x4 : Vec Ideal S8x128x128 .f32) (x5 : Vec Ideal S128x512 .f32) (x6 : Vec Ideal S1024x1024 .bf16) (x7 : Vec Ideal S1x1024 .f32) (x8 : Vec Ideal S1x1024 .f32) (x9 : Vec Ideal S1024x2816 .bf16) (x10 : Vec Ideal S1024x2816 .bf16) (x11 : Vec Ideal S2816x1024 .bf16) (x12 : Vec Ideal S1x1024 .f32) (x13 : Vec Ideal S1x1024 .f32)

/-- The heads' causal weights side by side, as the kernel lays them out. -/
def weights : FVec Ideal S128x1024 .bf16 := k0_pay55 x0 x1 x2 x3 x4 x5 x6 x7 x8 x9 x10 x11 x12 x13

theorem pay57_eq :
    k0_pay57 x0 x1 x2 x3 x4 x5 x6 x7 x8 x9 x10 x11 x12 x13 =
      project (gate (weights x0 x1 x2 x3 x4 x5 x6 x7 x8 x9 x10 x11 x12 x13) (View.ld x3 r0_8) (View.ld x5 r0_9) (View.ld x2 r0_8))
        (gate (weights x0 x1 x2 x3 x4 x5 x6 x7 x8 x9 x10 x11 x12 x13) (View.ld x3 r0_10) (View.ld x5 r0_9) (View.ld x2 r0_10))
        (gate (weights x0 x1 x2 x3 x4 x5 x6 x7 x8 x9 x10 x11 x12 x13) (View.ld x3 r0_11) (View.ld x5 r0_9) (View.ld x2 r0_11))
        (gate (weights x0 x1 x2 x3 x4 x5 x6 x7 x8 x9 x10 x11 x12 x13) (View.ld x3 r0_12) (View.ld x5 r0_9) (View.ld x2 r0_12))
        (View.ld x1 r0_13) (View.ld x6 r0_14) := rfl

set_option maxRecDepth 16384 in
theorem gate_apply (w v b u) (t : Fin 128) (d : Fin 512) :
    gate w v b u (ix2 t d) = u (ix2 t d) * ((∑ k : Fin 1024, w (ix2 t k) * diagonal v (ix2 k d)) + b (ix2 t d)) := by
  pointwise [gate]

/-- A lane's head is the one asked for, as the kernel's words compare it. -/
theorem select_head {n h : ℕ} (hn : n < 8) (hh : h < 8) (a : EReal) :
    Scalar.select (IntOp.cmpi .eq (BitVec.ofNat 32 n) (BitVec.ofNat 32 h)) a 0 = if n = h then a else 0 := by
  have : (IntOp.cmpi .eq (BitVec.ofNat 32 n) (BitVec.ofNat 32 h)) = if n = h then 1#1 else 0#1 := by
    have : ∀ a b : Fin 8, (IntOp.cmpi .eq (BitVec.ofNat 32 a.val) (BitVec.ofNat 32 b.val)) = if a.val = b.val then 1#1 else 0#1 := by
      decide +kernel
    exact this ⟨n, hn⟩ ⟨h, hh⟩
  rw [this]
  split_ifs <;> simp [Scalar.select]

set_option maxRecDepth 16384 in
theorem diagonal_apply (v) (h : Fin 8) (s : Fin 128) (d : Fin 512) :
    diagonal v (ix2 ⟨128 * h.val + s.val, by omega⟩ d) = if d.val / 64 = h.val then v (ix2 s d) else 0 := by
  pointwise [diagonal]
  simp only [lane_apply]
  obtain ⟨h, hh⟩ := h
  interval_cases h <;>
    · simp (disch := omega) only [dif_pos, dif_neg, Nat.reduceMul, Nat.mul_zero, Nat.mul_one, Nat.zero_add, Nat.sub_sub, Nat.reduceAdd,
        Nat.add_sub_cancel_left, Fin.eta]
      exact select_head (by omega) (by omega) _

/-- A head's weights, those of later positions zero. -/
def head (w : FVec Ideal S1x128x128 .f32) : FVec Ideal S128x128 .f32 :=
  k0_pay8 k0_pay1 k0_pay2 k0_pay3 k0_pay4 k0_pay5 k0_pay6 w

theorem head_eq (w : FVec Ideal S1x128x128 .f32) : head w =
    select causal (shapeCast S128x128 w shapeCasts_S1x128x128_S128x128)
      (broadcast S128x128 (Scalar.ofBits (F := Ideal) .f32 0x00000000#32)) := rfl

theorem select_causal (t s : Fin 128) (a : EReal) :
    Scalar.select (causal (ix2 t s)) a 0 = if s ≤ t then a else 0 := by
  rw [causal_apply]
  split_ifs <;> simp [Scalar.select]

set_option maxRecDepth 16384 in
theorem weights_apply (t : Fin 128) (h : Fin 8) (s : Fin 128) :
    weights x0 x1 x2 x3 x4 x5 x6 x7 x8 x9 x10 x11 x12 x13 (ix2 t ⟨128 * h.val + s.val, by omega⟩) =
      if s ≤ t then x4 (ix3 h t s) else 0 := by
  change k0_pay14 causal (head (View.ld x4 r0_0)) (head (View.ld x4 r0_1)) (head (View.ld x4 r0_2)) (head (View.ld x4 r0_3))
    (head (View.ld x4 r0_4)) (head (View.ld x4 r0_5)) (View.ld x4 r0_6) (View.ld x4 r0_7) _ = _
  pointwise [k0_pay14, head_eq]
  simp only [Nat.sub_sub, Nat.reduceAdd, select_causal]
  obtain ⟨h, hh⟩ := h
  interval_cases h <;>
    · simp (disch := omega) only [dif_pos, dif_neg, Nat.reduceMul, Nat.mul_zero, Nat.mul_one, Nat.zero_add, Nat.sub_sub, Nat.reduceAdd,
        Nat.add_sub_cancel_left, Fin.eta]
      rfl

set_option maxRecDepth 16384 in
theorem inner_apply (h x : FVec Ideal S512x1024 .f32) (g b : FVec Ideal S1x1024 .f32) (r : Fin 512) (j : Fin 1024) :
    k0_pay45 h x g b (ix2 r j) =
      inner (fun j => g (ix2 0 j)) (fun j => b (ix2 0 j)) (fun j => x (ix2 r j)) (fun j => h (ix2 r j)) j := by
  pointwise [k0_pay45, inner, norm, mean]

theorem inner_apply' (h x : FVec Ideal S512x1024 .f32) (g b : FVec Ideal S1x1024 .f32) :
    k0_pay46 h x g b = k0_pay45 h x g b := rfl

set_option maxRecDepth 16384 in
theorem chunk_apply (h x : FVec Ideal S512x1024 .f32) (g b : FVec Ideal S1x1024 .f32) (wg wu wd) (r : Fin 512) (j : Fin 1024) :
    k0_pay47 h x g b wg wu wd (ix2 r j) =
      ∑ k : Fin 1408, (∑ d : Fin 1024, k0_pay45 h x g b (ix2 r d) * wg (ix2 d k)) *
        Ideal.logistic (∑ d : Fin 1024, k0_pay45 h x g b (ix2 r d) * wg (ix2 d k)) *
        (∑ d : Fin 1024, k0_pay45 h x g b (ix2 r d) * wu (ix2 d k)) * wd (ix2 k j) := by
  pointwise [k0_pay47, inner_apply']

set_option maxRecDepth 16384 in
theorem outer_apply (x : FVec Ideal S512x1024 .f32) (x' : FVec Ideal S512x1024 .bf16) (f : FVec Ideal S512x1024 .f32) (wg wu wd) (g b : FVec Ideal S1x1024 .f32) (r : Fin 512) (j : Fin 1024) :
    k0_pay48 x x' f wg wu wd g b (ix2 r j) =
      norm (fun j => g (ix2 0 j)) (fun j => b (ix2 0 j)) (fun j => alpha * x (ix2 r j) + (f (ix2 r j) +
      ∑ k : Fin 1408, (∑ d : Fin 1024, x' (ix2 r d) * wg (ix2 d k)) * Ideal.logistic (∑ d : Fin 1024, x' (ix2 r d) * wg (ix2 d k)) * (∑ d : Fin 1024, x' (ix2 r d) * wu (ix2 d k)) * wd (ix2 k j))) j := by
  pointwise [k0_pay48, norm, mean]

theorem sum_heads {M : Type} [AddCommMonoid M] (f : Fin 1024 → M) :
    ∑ k, f k = ∑ h : Fin 8, ∑ s : Fin 128, f ⟨128 * h.val + s.val, by omega⟩ := by
  rw [← Fintype.sum_prod_type', ← Equiv.sum_comp (finProdFinEquiv (m := 8) (n := 128)) f]
  exact Finset.sum_congr rfl fun p _ => congrArg f (Fin.ext (Nat.add_comm _ _))

theorem gate_weights (v b u) (t : Fin 128) (d : Fin 512) :
    gate (weights x0 x1 x2 x3 x4 x5 x6 x7 x8 x9 x10 x11 x12 x13) v b u (ix2 t d) =
      gated (fun h t s => x4 (ix3 h t s)) (fun s d => v (ix2 s d)) (b (ix2 t d)) (u (ix2 t d)) t d := by
  rw [gate_apply, sum_heads, gated, Finset.sum_eq_single ⟨d.val / 64, by omega⟩]
  · exact congrArg (_ * ·) (congrArg (· + _) (Finset.sum_congr rfl fun s _ => congrArg₂ (· * ·)
      (weights_apply x0 x1 x2 x3 x4 x5 x6 x7 x8 x9 x10 x11 x12 x13 t ⟨d.val / 64, by omega⟩ s)
      ((diagonal_apply v ⟨d.val / 64, by omega⟩ s d).trans (if_pos rfl))))
  · intro h _ hne
    refine Finset.sum_eq_zero fun s _ => ?_
    rw [diagonal_apply, if_neg fun e => hne (Fin.ext e.symm), mul_zero]
  · intro hn
    exact absurd (Finset.mem_univ _) hn

set_option maxRecDepth 16384 in
theorem project_apply (g0 g1 g2 g3 o w) (G : Fin 512 → Fin 512 → EReal)
    (h0 : ∀ (t : Fin 128) d, g0 (ix2 t d) = G ⟨t.val, by omega⟩ d) (h1 : ∀ (t : Fin 128) d, g1 (ix2 t d) = G ⟨128 + t.val, by omega⟩ d)
    (h2 : ∀ (t : Fin 128) d, g2 (ix2 t d) = G ⟨256 + t.val, by omega⟩ d) (h3 : ∀ (t : Fin 128) d, g3 (ix2 t d) = G ⟨384 + t.val, by omega⟩ d)
    (r : Fin 512) (j : Fin 1024) :
    project g0 g1 g2 g3 o w (ix2 r j) = projected (fun k => o (ix2 r k)) (G r) (fun k j => w (ix2 k j)) j := by
  pointwise [project, projected]
  refine congrArg _ (Finset.sum_congr rfl fun k _ => congrArg (· * _) ?_)
  simp only [h0, h1, h2, h3]
  split_ifs <;> exact congrArg (G · k) (Fin.ext (by first | rfl | (simp only; omega)))

/-- The gate's rows of a block of 512, from the block's rows of u and v. -/
def gateRow (ws : Fin 8 → Fin 128 → Fin 128 → EReal) (bs : Fin 128 → Fin 512 → EReal) (v u : Fin 512 → Fin 512 → EReal)
    (r d : Fin 512) : EReal :=
  gated ws (fun s d => v ⟨128 * (r.val / 128) + s.val, by omega⟩ d) (bs ⟨r.val % 128, by omega⟩ d) (u r d) ⟨r.val % 128, by omega⟩ d

theorem gateRow_at (ws bs v u) (q : ℕ) (hq : q < 4) (t : Fin 128) (d : Fin 512) :
    gateRow ws bs v u ⟨128 * q + t.val, by omega⟩ d =
      gated ws (fun s d => v ⟨128 * q + s.val, by omega⟩ d) (bs t d) (u ⟨128 * q + t.val, by omega⟩ d) t d := by
  have e : (⟨(128 * q + t.val) % 128, by omega⟩ : Fin 128) = t := Fin.ext (by simp only; omega)
  have e' (s : Fin 128) : (⟨128 * ((128 * q + t.val) / 128) + s.val, by omega⟩ : Fin 512) = ⟨128 * q + s.val, by omega⟩ :=
    Fin.ext (by simp only; omega)
  simp only [gateRow, e, e']

set_option maxRecDepth 16384 in
theorem pay57_apply (r : Fin 512) (j : Fin 1024) :
    k0_pay57 x0 x1 x2 x3 x4 x5 x6 x7 x8 x9 x10 x11 x12 x13 (ix2 r j) =
      projected (fun k => x1 (ix2 r k))
        (gateRow (fun h t s => x4 (ix3 h t s)) (fun t d => x5 (ix2 t d)) (fun s d => x3 (ix2 s d)) (fun s d => x2 (ix2 s d)) r)
        (fun k j => x6 (ix2 k j)) j := by
  rw [pay57_eq, project_apply (G := gateRow (fun h t s => x4 (ix3 h t s)) (fun t d => x5 (ix2 t d)) (fun s d => x3 (ix2 s d)) (fun s d => x2 (ix2 s d)))]
  · pointwise
  · intro t d
    have := gateRow_at (fun h t s => x4 (ix3 h t s)) (fun t d => x5 (ix2 t d)) (fun s d => x3 (ix2 s d)) (fun s d => x2 (ix2 s d)) 0 (by omega) t d
    simp only [Nat.mul_zero, Nat.zero_add] at this
    rw [this, gate_weights]
    pointwise
  · intro t d
    refine Eq.trans ?_ (gateRow_at _ _ _ _ 1 (by omega) t d).symm
    rw [gate_weights]
    pointwise
  · intro t d
    refine Eq.trans ?_ (gateRow_at _ _ _ _ 2 (by omega) t d).symm
    rw [gate_weights]
    pointwise
  · intro t d
    refine Eq.trans ?_ (gateRow_at _ _ _ _ 3 (by omega) t d).symm
    rw [gate_weights]
    pointwise

set_option maxRecDepth 16384 in
/-- The feed-forward part in the kernel's two halves. -/
theorem tail_apply (h x : FVec Ideal S512x1024 .f32) (g b g' b' : FVec Ideal S1x1024 .f32) (r : Fin 512) (j : Fin 1024) :
    k0_pay48 (k0_pay45 h x g b) (k0_pay46 h x g b) (k0_pay47 h x g b (View.ld x9 r0_17) (View.ld x10 r0_17) (View.ld x11 r0_18))
        (View.ld x9 r0_19) (View.ld x10 r0_19) (View.ld x11 r0_20) g' b' (ix2 r j) =
      outer (fun d k => x9 (ix2 d k)) (fun d k => x10 (ix2 d k)) (fun k j => x11 (ix2 k j)) (fun j => g' (ix2 0 j)) (fun j => b' (ix2 0 j))
        (fun j => k0_pay45 h x g b (ix2 r j)) j := by
  rw [outer_apply, outer]
  simp only [chunk_apply, inner_apply']
  generalize k0_pay45 h x g b = X
  refine congrFun (congrArg (norm _ _) (funext fun j => congrArg (fun y : EReal => alpha * X (ix2 r j) + y) ?_)) j
  rw [Fin.sum_univ_two_halves 1408 1408 rfl]
  pointwise [hidden]

theorem row_load (w : Vec Ideal S1x1024 .f32) : View.ld w r0_16 = w := by
  refine funext fun (j : S1x1024.Idx) => ?_
  idx_vars j
  obtain rfl : j0 = 0 := Subsingleton.elim _ _
  pointwise

set_option maxRecDepth 16384 in
theorem block_read (r : Fin 512) (j : Fin 1024) :
    out0_14 x0 x1 x2 x3 x4 x5 x6 x7 x8 x9 x10 x11 x12 x13 (ix2 r j) =
      k0_pay48 (k0_pay45 (k0_pay57 x0 x1 x2 x3 x4 x5 x6 x7 x8 x9 x10 x11 x12 x13) (k0_pay58 x0 x1 x2 x3 x4 x5 x6 x7 x8 x9 x10 x11 x12 x13) x7 x8)
        (k0_pay46 (k0_pay57 x0 x1 x2 x3 x4 x5 x6 x7 x8 x9 x10 x11 x12 x13) (k0_pay58 x0 x1 x2 x3 x4 x5 x6 x7 x8 x9 x10 x11 x12 x13) x7 x8)
        (k0_pay47 (k0_pay57 x0 x1 x2 x3 x4 x5 x6 x7 x8 x9 x10 x11 x12 x13) (k0_pay58 x0 x1 x2 x3 x4 x5 x6 x7 x8 x9 x10 x11 x12 x13) x7 x8
          (View.ld x9 r0_17) (View.ld x10 r0_17) (View.ld x11 r0_18))
        (View.ld x9 r0_19) (View.ld x10 r0_19) (View.ld x11 r0_20) x12 x13 (ix2 r j) := by
  have hy : ix2 r j = r0_15.emb (ix2 r j) := by idx_ext
  unfold out0_14
  rw [row_load x7, row_load x8, row_load x12, row_load x13]
  generalize k0_pay48 (F := Ideal) _ _ _ _ _ _ _ _ = w
  have := View.canon_cons_emb (Val := Elt Ideal) (e := .f32) r0_15 w [] (ix2 r j)
  rw [← hy] at this
  exact this

set_option maxRecDepth 16384 in
theorem block_apply (r : Fin 512) (j : Fin 1024) :
    out0_14 x0 x1 x2 x3 x4 x5 x6 x7 x8 x9 x10 x11 x12 x13 (ix2 r j) =
      outer (fun d k => x9 (ix2 d k)) (fun d k => x10 (ix2 d k)) (fun k j => x11 (ix2 k j)) (fun j => x12 (ix2 0 j)) (fun j => x13 (ix2 0 j))
        (inner (fun j => x7 (ix2 0 j)) (fun j => x8 (ix2 0 j)) (fun j => x0 (ix2 r j))
          (projected (fun k => x1 (ix2 r k))
            (gateRow (fun h t s => x4 (ix3 h t s)) (fun t d => x5 (ix2 t d)) (fun s d => x3 (ix2 s d)) (fun s d => x2 (ix2 s d)) r)
            (fun k j => x6 (ix2 k j)))) j := by
  have hx (j : Fin 1024) : k0_pay58 x0 x1 x2 x3 x4 x5 x6 x7 x8 x9 x10 x11 x12 x13 (ix2 r j) = x0 (ix2 r j) := by
    pointwise [k0_pay58, k0_pay44]
  rw [block_read, tail_apply]
  simp only [inner_apply, pay57_apply, hx]

end Cert.Proof.Post

end
-- ==== Proof.PostReference.lean ====
/-
  The reference's rows: what its operations compute at a sequence, a position and a lane.
-/
module

public import proofs.«01_k».proof.Proof.Gen.PostReferenceIdeal.Run
public import proofs.«01_k».proof.Proof.PostSpec

@[expose] public section

noncomputable section

namespace Cert.Proof.Post

open Cert.PostReferenceIdeal Cert.PostReferenceIdeal.Gen Cert.PostReferenceIdeal.Value Idealize.ShloMosaic

variable (V : Valuation τ sig (Elt Ideal))

/-- The reference's causal mask, as it compares positions. -/
theorem causal_ref (t s : Fin 128) (a b : EReal) :
    Scalar.select (IntOp.cmpi .sge (IntOp.addi (BitVec.ofNat 32 t.val) 0#32) (BitVec.ofNat 32 s.val)) (a * b) 0 =
      (if s ≤ t then b else 0) * a := by
  have : ∀ t s : Fin 128, IntOp.cmpi .sge (IntOp.addi (BitVec.ofNat 32 t.val) 0#32) (BitVec.ofNat 32 s.val) =
      if s ≤ t then 1#1 else 0#1 := by decide +kernel
  rw [this]
  split_ifs <;> simp [Scalar.select, mul_comm]

/-- The row of the attention's output and the gate's, through the output weights. -/
def refProjected (b : Fin 2) (t : Fin 8192) : Fin 1024 → EReal :=
  projected (fun k => (V (Proc.devRef .tc main_arg1) : Vec Ideal S2x8192x512 .f32) (ix3 b t k))
    (fun d => gated (fun h t s => (V (Proc.devRef .tc main_arg4) : Vec Ideal S8x128x128 .f32) (ix3 h t s))
      (fun s d => (V (Proc.devRef .tc main_arg3) : Vec Ideal S2x8192x512 .f32) (ix3 b ⟨128 * (t.val / 128) + s.val, by omega⟩ d))
      ((V (Proc.devRef .tc main_arg5) : Vec Ideal S8x128 .f32) (ix2 ⟨d.val / 64, by omega⟩ ⟨t.val % 128, by omega⟩))
      ((V (Proc.devRef .tc main_arg2) : Vec Ideal S2x8192x512 .f32) (ix3 b t d)) ⟨t.val % 128, by omega⟩ d)
    (fun k j => (V (Proc.devRef .tc main_arg6) : Vec Ideal S1024x1024 .f32) (ix2 k j))

set_option maxRecDepth 16384 in
theorem v14_apply (b : Fin 2) (t : Fin 8192) (j : Fin 1024) :
    (res_main_v14 V : Vec Ideal S2x8192x1024 .f32) (ix3 b t j) =
      alpha * (V (Proc.devRef .tc main_arg0) : Vec Ideal S2x8192x1024 .f32) (ix3 b t j) + refProjected V b t j := by
  pointwise [res_main_v14, refProjected, projected, gated]
  have hmask (s : Fin 128) (a b : EReal) := causal_ref ⟨t.val % 128, by omega⟩ s a b
  have e (s : Fin 128) : (⟨t.val / 128 * 128 + s.val, by omega⟩ : Fin 8192) = ⟨128 * (t.val / 128) + s.val, by omega⟩ :=
    Fin.ext (by simp only; omega)
  have e' (k : Fin 512) : (⟨k.val / 64 * 64 + k.val % 64, by omega⟩ : Fin 512) = k := Fin.ext (by simp only; omega)
  simp only [e, e', hmask]

/-- The row after the reference's first norm. -/
def refInner (b : Fin 2) (t : Fin 8192) : Fin 1024 → EReal :=
  inner (fun j => (V (Proc.devRef .tc main_arg7) : Vec Ideal S1024 .f32) (ix1 j))
    (fun j => (V (Proc.devRef .tc main_arg8) : Vec Ideal S1024 .f32) (ix1 j))
    (fun j => (V (Proc.devRef .tc main_arg0) : Vec Ideal S2x8192x1024 .f32) (ix3 b t j)) (refProjected V b t)

set_option maxRecDepth 16384 in
theorem v38_apply (b : Fin 2) (t : Fin 8192) (j : Fin 1024) :
    (res_main_v38 V : Vec Ideal S2x8192x1024 .f32) (ix3 b t j) = refInner V b t j := by
  pointwise [res_main_v38, res_main_v18, res_main_v20, refInner, inner, norm, mean, v14_apply]

/-- The row before the reference's second norm. -/
def refSum (b : Fin 2) (t : Fin 8192) (j : Fin 1024) : EReal :=
  alpha * refInner V b t j +
    ∑ k, hidden (fun d k => (V (Proc.devRef .tc main_arg9) : Vec Ideal S1024x2816 .f32) (ix2 d k))
      (fun d k => (V (Proc.devRef .tc main_arg10) : Vec Ideal S1024x2816 .f32) (ix2 d k)) (refInner V b t) k *
      (V (Proc.devRef .tc main_arg11) : Vec Ideal S2816x1024 .f32) (ix2 k j)

set_option maxRecDepth 16384 in
theorem v46_apply (b : Fin 2) (t : Fin 8192) (j : Fin 1024) :
    (res_main_v46 V : Vec Ideal S2x8192x1024 .f32) (ix3 b t j) = refSum V b t j := by
  pointwise [res_main_v46, res_main_v39, refSum, hidden, Ideal.logistic, v38_apply]

/-- The row after the reference's second norm. -/
def refOuter (b : Fin 2) (t : Fin 8192) : Fin 1024 → EReal :=
  norm (fun j => (V (Proc.devRef .tc main_arg12) : Vec Ideal S1024 .f32) (ix1 j))
    (fun j => (V (Proc.devRef .tc main_arg13) : Vec Ideal S1024 .f32) (ix1 j)) (refSum V b t)

/-- The reference's result, as its run states it. -/
def refResult : Vec Ideal S16384x1024 .f32 :=
  shapeCast S16384x1024 (addf (mulf (mulf (subf (res_main_v46 V) (broadcastInDim S2x8192x1024 ![0, 1, 2] bcast_S2x8192x1_S2x8192x1024_0_1_2 (res_main_v50 V))) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v52 V) (res_main_v52 V)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32)))))) (broadcastInDim S2x8192x1024 ![0, 1, 2] bcast_S1x1x1024_S2x8192x1024_0_1_2 (broadcastInDim S1x1x1024 ![2] bcast_S1024_S1x1x1024_2 (V (Proc.devRef .tc main_arg12))))) (broadcastInDim S2x8192x1024 ![0, 1, 2] bcast_S1x1x1024_S2x8192x1024_0_1_2 (broadcastInDim S1x1x1024 ![2] bcast_S1024_S1x1x1024_2 (V (Proc.devRef .tc main_arg13))))) shapeCasts_S2x8192x1024_S16384x1024

set_option maxRecDepth 16384 in
theorem refResult_apply (i : Fin 16384) (j : Fin 1024) :
    refResult V (ix2 i j) = refOuter V ⟨i.val / 8192, by omega⟩ ⟨i.val % 8192, by omega⟩ j := by
  pointwise [refResult, res_main_v50, res_main_v52, refOuter, norm, mean, v46_apply]

end Cert.Proof.Post

end
-- ==== Proof.PostValue.lean ====
/-
  From the blocks to the arrays: what each of the kernel's windows reads of its arguments, and so what the kernel's
  result holds at every index, set equal to what the reference's result holds there.
-/
module

public import proofs.«01_k».proof.Proof.PostKernel
public import proofs.«01_k».proof.Proof.PostReference
public import Idealize.ShloMosaic.Lib.Claim

@[expose] public section

noncomputable section

namespace Cert.Proof.Post

open Cert.PostIdeal Cert.PostIdeal.Gen Idealize.ShloMosaic Idealize.ShloMosaic.TcCoe

variable (m : (ℓ : Loc nD τ sig) → Buf (Elt Ideal) ℓ) (c : Dev nD)

/-! ## The arrays the windows read, of the arguments -/

set_option maxRecDepth 16384 in
theorem entry_x (i : Fin 16384) (j : Fin 1024) :
    (V m c main_v17 : Vec Ideal S16384x1024 .f32) (ix2 i j) =
      (m ((c : Thread nD τ).loc main_arg0) : Vec Ideal S2x8192x1024 .f32) (ix3 ⟨i.val / 8192, by omega⟩ ⟨i.val % 8192, by omega⟩ j) := by
  entry_read
  pointwise []

set_option maxRecDepth 16384 in
theorem entry_o (i : Fin 16384) (j : Fin 512) :
    (V m c main_v19 : Vec Ideal S16384x512 .bf16) (ix2 i j) =
      (m ((c : Thread nD τ).loc main_arg1) : Vec Ideal S2x8192x512 .f32) (ix3 ⟨i.val / 8192, by omega⟩ ⟨i.val % 8192, by omega⟩ j) := by
  entry_read
  pointwise []

set_option maxRecDepth 16384 in
theorem entry_u (i : Fin 16384) (j : Fin 512) :
    (V m c main_v21 : Vec Ideal S16384x512 .bf16) (ix2 i j) =
      (m ((c : Thread nD τ).loc main_arg2) : Vec Ideal S2x8192x512 .f32) (ix3 ⟨i.val / 8192, by omega⟩ ⟨i.val % 8192, by omega⟩ j) := by
  entry_read
  pointwise []

set_option maxRecDepth 16384 in
theorem entry_v (i : Fin 16384) (j : Fin 512) :
    (V m c main_v23 : Vec Ideal S16384x512 .bf16) (ix2 i j) =
      (m ((c : Thread nD τ).loc main_arg3) : Vec Ideal S2x8192x512 .f32) (ix3 ⟨i.val / 8192, by omega⟩ ⟨i.val % 8192, by omega⟩ j) := by
  entry_read
  pointwise []

set_option maxRecDepth 16384 in
theorem entry_ws (h : Fin 8) (t s : Fin 128) :
    (V m c main_v2 : Vec Ideal S8x128x128 .f32) (ix3 h t s) =
      (m ((c : Thread nD τ).loc main_arg4) : Vec Ideal S8x128x128 .f32) (ix3 h t s) := by
  entry_read
  pointwise []

set_option maxRecDepth 16384 in
theorem entry_bs (t : Fin 128) (d : Fin 512) :
    (V m c main_v8 : Vec Ideal S128x512 .f32) (ix2 t d) =
      (m ((c : Thread nD τ).loc main_arg5) : Vec Ideal S8x128 .f32) (ix2 ⟨d.val / 64, by omega⟩ t) := by
  entry_read
  pointwise []

set_option maxRecDepth 16384 in
theorem entry_wout (k j : Fin 1024) :
    (V m c main_v9 : Vec Ideal S1024x1024 .bf16) (ix2 k j) =
      (m ((c : Thread nD τ).loc main_arg6) : Vec Ideal S1024x1024 .f32) (ix2 k j) := by
  entry_read
  pointwise []

set_option maxRecDepth 16384 in
theorem entry_ln1g (j : Fin 1024) :
    (V m c main_v10 : Vec Ideal S1x1024 .f32) (ix2 0 j) =
      (m ((c : Thread nD τ).loc main_arg7) : Vec Ideal S1024 .f32) (ix1 j) := by
  entry_read
  pointwise []

set_option maxRecDepth 16384 in
theorem entry_ln1b (j : Fin 1024) :
    (V m c main_v11 : Vec Ideal S1x1024 .f32) (ix2 0 j) =
      (m ((c : Thread nD τ).loc main_arg8) : Vec Ideal S1024 .f32) (ix1 j) := by
  entry_read
  pointwise []

set_option maxRecDepth 16384 in
theorem entry_gate (d : Fin 1024) (k : Fin 2816) :
    (V m c main_v12 : Vec Ideal S1024x2816 .bf16) (ix2 d k) =
      (m ((c : Thread nD τ).loc main_arg9) : Vec Ideal S1024x2816 .f32) (ix2 d k) := by
  entry_read
  pointwise []

set_option maxRecDepth 16384 in
theorem entry_up (d : Fin 1024) (k : Fin 2816) :
    (V m c main_v13 : Vec Ideal S1024x2816 .bf16) (ix2 d k) =
      (m ((c : Thread nD τ).loc main_arg10) : Vec Ideal S1024x2816 .f32) (ix2 d k) := by
  entry_read
  pointwise []

set_option maxRecDepth 16384 in
theorem entry_down (k : Fin 2816) (j : Fin 1024) :
    (V m c main_v14 : Vec Ideal S2816x1024 .bf16) (ix2 k j) =
      (m ((c : Thread nD τ).loc main_arg11) : Vec Ideal S2816x1024 .f32) (ix2 k j) := by
  entry_read
  pointwise []

set_option maxRecDepth 16384 in
theorem entry_ln2g (j : Fin 1024) :
    (V m c main_v15 : Vec Ideal S1x1024 .f32) (ix2 0 j) =
      (m ((c : Thread nD τ).loc main_arg12) : Vec Ideal S1024 .f32) (ix1 j) := by
  entry_read
  pointwise []

set_option maxRecDepth 16384 in
theorem entry_ln2b (j : Fin 1024) :
    (V m c main_v16 : Vec Ideal S1x1024 .f32) (ix2 0 j) =
      (m ((c : Thread nD τ).loc main_arg13) : Vec Ideal S1024 .f32) (ix1 j) := by
  entry_read
  pointwise []

/-! ## The windows' blocks, of the arrays -/

/-- The four windows of rows, and the result's, move by one block of 512 rows at each point. -/
theorem rows_index : ∀ t : Fin grid0.N,
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) ∧
    (win0_14.index t 0 = t.val ∧ win0_14.index t 1 = 0) := by decide +kernel

/-- The other windows are their whole arrays at every point. -/
theorem whole_index : ∀ t : Fin grid0.N, (∀ a, win0_4.index t a = 0) ∧ (∀ a, win0_5.index t a = 0) ∧
    (∀ a, win0_6.index t a = 0) ∧ (∀ a, win0_7.index t a = 0) ∧ (∀ a, win0_8.index t a = 0) ∧
    (∀ a, win0_9.index t a = 0) ∧ (∀ a, win0_10.index t a = 0) ∧ (∀ a, win0_11.index t a = 0) ∧
    (∀ a, win0_12.index t a = 0) ∧ (∀ a, win0_13.index t a = 0) := by decide +kernel

/-- The array's row of row `r` of the block at point `t`. -/
def rowOf (t : Fin grid0.N) (r : Fin 512) : Fin 16384 :=
  ⟨512 * t.val + r.val, by have := t.isLt; have : grid0.N = 32 := rfl; omega⟩

/-- An array read where a window's block puts an index of the block, on every axis the block's offset on. -/
theorem read_emb (w : Pipeline.Window sig grid0) (t : Fin grid0.N) {α : Type} (A : w.shape.Idx → α)
    (y : (w.xblock (grid0.coords t)).Idx) (i : w.shape.Idx) (hk : w.kind = .blocked)
    (h : ∀ a, (i a : Nat) = w.index t a * w.size a + y a) : A ((w.rect t).emb y) = A i :=
  congrArg A (funext fun a => Fin.ext ((w.rect_emb_val t y a hk).trans (h a).symm))

/-- The same at a window that is its whole array. -/
theorem read_whole (w : Pipeline.Window sig grid0) (t : Fin grid0.N) {α : Type} (A : w.shape.Idx → α)
    (y : (w.xblock (grid0.coords t)).Idx) (i : w.shape.Idx) (h0 : ∀ a, w.index t a = 0)
    (h : ∀ a, (i a : Nat) = y a) : A ((w.rect t).emb y) = A i :=
  congrArg A (funext fun a => Fin.ext ((w.rect_emb_val_of_index_zero t a (h0 a) y).trans (h a).symm))

/-- The coordinates of an index of the array under a block of 512 rows. -/
theorem row_coords (n : Nat) (t : Fin grid0.N) (r : Fin 512) (j : Fin n) (f : Fin 2 → Nat) (h : f 0 = t.val ∧ f 1 = 0) :
    ∀ a : Fin 2, ((ix2 (rowOf t r) j : Shape.Idx ⟨2, ![16384, n]⟩) a : Nat) =
      f a * (![512, n] : Fin 2 → Nat) a + ((ix2 r j : Shape.Idx ⟨2, ![512, n]⟩) a : Nat)
  | 0 => by rw [h.1]; show 512 * t.val + r.val = t.val * 512 + r.val; omega
  | 1 => by rw [h.2]; show j.val = 0 * n + j.val; omega

theorem block_x (t : Fin cfg0.N) (r : Fin 512) (j : Fin 1024) :
    (iblk m c 0 t : Vec Ideal S512x1024 .f32) (ix2 r j) = (V m c main_v17 : Vec Ideal S16384x1024 .f32) (ix2 (rowOf t r) j) :=
  read_emb win0_0 t (V m c main_v17 : Vec Ideal S16384x1024 .f32) _ _ rfl (row_coords 1024 t r j _ (rows_index t).1)

theorem block_o (t : Fin cfg0.N) (r : Fin 512) (j : Fin 512) :
    (iblk m c 1 t : Vec Ideal S512x512 .bf16) (ix2 r j) = (V m c main_v19 : Vec Ideal S16384x512 .bf16) (ix2 (rowOf t r) j) :=
  read_emb win0_1 t (V m c main_v19 : Vec Ideal S16384x512 .bf16) _ _ rfl (row_coords 512 t r j _ (rows_index t).2.1)

theorem block_u (t : Fin cfg0.N) (r : Fin 512) (j : Fin 512) :
    (iblk m c 2 t : Vec Ideal S512x512 .bf16) (ix2 r j) = (V m c main_v21 : Vec Ideal S16384x512 .bf16) (ix2 (rowOf t r) j) :=
  read_emb win0_2 t (V m c main_v21 : Vec Ideal S16384x512 .bf16) _ _ rfl (row_coords 512 t r j _ (rows_index t).2.2.1)

theorem block_v (t : Fin cfg0.N) (r : Fin 512) (j : Fin 512) :
    (iblk m c 3 t : Vec Ideal S512x512 .bf16) (ix2 r j) = (V m c main_v23 : Vec Ideal S16384x512 .bf16) (ix2 (rowOf t r) j) :=
  read_emb win0_3 t (V m c main_v23 : Vec Ideal S16384x512 .bf16) _ _ rfl (row_coords 512 t r j _ (rows_index t).2.2.2.1)

theorem block_ws (t : Fin cfg0.N) : (iblk m c 4 t : Vec Ideal S8x128x128 .f32) = V m c main_v2 :=
  funext fun y => read_whole win0_4 t (V m c main_v2 : Vec Ideal S8x128x128 .f32) y y (whole_index t).1 fun _ => rfl

theorem block_bs (t : Fin cfg0.N) : (iblk m c 5 t : Vec Ideal S128x512 .f32) = V m c main_v8 :=
  funext fun y => read_whole win0_5 t (V m c main_v8 : Vec Ideal S128x512 .f32) y y (whole_index t).2.1 fun _ => rfl

theorem block_wout (t : Fin cfg0.N) : (iblk m c 6 t : Vec Ideal S1024x1024 .bf16) = V m c main_v9 :=
  funext fun y => read_whole win0_6 t (V m c main_v9 : Vec Ideal S1024x1024 .bf16) y y (whole_index t).2.2.1 fun _ => rfl

theorem block_ln1g (t : Fin cfg0.N) : (iblk m c 7 t : Vec Ideal S1x1024 .f32) = V m c main_v10 :=
  funext fun y => read_whole win0_7 t (V m c main_v10 : Vec Ideal S1x1024 .f32) y y (whole_index t).2.2.2.1 fun _ => rfl

theorem block_ln1b (t : Fin cfg0.N) : (iblk m c 8 t : Vec Ideal S1x1024 .f32) = V m c main_v11 :=
  funext fun y => read_whole win0_8 t (V m c main_v11 : Vec Ideal S1x1024 .f32) y y (whole_index t).2.2.2.2.1 fun _ => rfl

theorem block_gate (t : Fin cfg0.N) : (iblk m c 9 t : Vec Ideal S1024x2816 .bf16) = V m c main_v12 :=
  funext fun y => read_whole win0_9 t (V m c main_v12 : Vec Ideal S1024x2816 .bf16) y y (whole_index t).2.2.2.2.2.1 fun _ => rfl

theorem block_up (t : Fin cfg0.N) : (iblk m c 10 t : Vec Ideal S1024x2816 .bf16) = V m c main_v13 :=
  funext fun y => read_whole win0_10 t (V m c main_v13 : Vec Ideal S1024x2816 .bf16) y y (whole_index t).2.2.2.2.2.2.1 fun _ => rfl

theorem block_down (t : Fin cfg0.N) : (iblk m c 11 t : Vec Ideal S2816x1024 .bf16) = V m c main_v14 :=
  funext fun y => read_whole win0_11 t (V m c main_v14 : Vec Ideal S2816x1024 .bf16) y y (whole_index t).2.2.2.2.2.2.2.1 fun _ => rfl

theorem block_ln2g (t : Fin cfg0.N) : (iblk m c 12 t : Vec Ideal S1x1024 .f32) = V m c main_v15 :=
  funext fun y => read_whole win0_12 t (V m c main_v15 : Vec Ideal S1x1024 .f32) y y (whole_index t).2.2.2.2.2.2.2.2.1 fun _ => rfl

theorem block_ln2b (t : Fin cfg0.N) : (iblk m c 13 t : Vec Ideal S1x1024 .f32) = V m c main_v16 :=
  funext fun y => read_whole win0_13 t (V m c main_v16 : Vec Ideal S1x1024 .f32) y y (whole_index t).2.2.2.2.2.2.2.2.2 fun _ => rfl

/-! ## The result, at every index -/

/-- Row `(b, t)` of the layer, of the fourteen arrays. -/
def layerRow (a0 : Vec Ideal S2x8192x1024 .f32) (a1 a2 a3 : Vec Ideal S2x8192x512 .f32) (a4 : Vec Ideal S8x128x128 .f32)
    (a5 : Vec Ideal S8x128 .f32) (a6 : Vec Ideal S1024x1024 .f32) (a7 a8 : Vec Ideal S1024 .f32)
    (a9 a10 : Vec Ideal S1024x2816 .f32) (a11 : Vec Ideal S2816x1024 .f32) (a12 a13 : Vec Ideal S1024 .f32)
    (b : Fin 2) (t : Fin 8192) : Fin 1024 → EReal :=
  outer (fun d k => a9 (ix2 d k)) (fun d k => a10 (ix2 d k)) (fun k j => a11 (ix2 k j)) (fun j => a12 (ix1 j)) (fun j => a13 (ix1 j))
    (inner (fun j => a7 (ix1 j)) (fun j => a8 (ix1 j)) (fun j => a0 (ix3 b t j))
      (projected (fun k => a1 (ix3 b t k))
        (fun d => gated (fun h t s => a4 (ix3 h t s)) (fun s d => a3 (ix3 b ⟨128 * (t.val / 128) + s.val, by omega⟩ d))
          (a5 (ix2 ⟨d.val / 64, by omega⟩ ⟨t.val % 128, by omega⟩)) (a2 (ix3 b t d)) ⟨t.val % 128, by omega⟩ d)
        (fun k j => a6 (ix2 k j))))

/-- Every point writes its block of the result back. -/
theorem flush14 : ∀ t : Fin grid0.N, win0_14.flush t = true := by decide +kernel

/-- The result's element under row `r` of the block of point `t`. -/
theorem result_block (t : Fin cfg0.N) (r : Fin 512) (j : Fin 1024) :
    ((dats m 0 c).arrAt 14 cfg0.N : Vec Ideal S16384x1024 .f32) (ix2 (rowOf t r) j) =
      out0_14 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (ix2 r j) := by
  have h := congrFun ((Cert.PostIdeal.Value.blocks14 m c t (flush14 t)).trans (Cert.PostIdeal.Value.flushed14 m c t)) (ix2 r j)
  refine Eq.trans (Eq.symm ?_) h
  exact read_emb win0_14 t ((dats m 0 c).arrAt 14 cfg0.N : Vec Ideal S16384x1024 .f32) _ _ rfl
    (row_coords 1024 t r j _ (rows_index t).2.2.2.2)

theorem outer_congr {wg wg' wu wu' : Fin 1024 → Fin 2816 → EReal} {wd wd' : Fin 2816 → Fin 1024 → EReal} {g g' b b' x x' : Fin 1024 → EReal}
    (h1 : ∀ d k, wg d k = wg' d k) (h2 : ∀ d k, wu d k = wu' d k) (h3 : ∀ k j, wd k j = wd' k j) (h4 : ∀ j, g j = g' j)
    (h5 : ∀ j, b j = b' j) (h6 : x = x') : outer wg wu wd g b x = outer wg' wu' wd' g' b' x' := by
  obtain rfl : wg = wg' := funext fun d => funext (h1 d)
  obtain rfl : wu = wu' := funext fun d => funext (h2 d)
  obtain rfl : wd = wd' := funext fun k => funext (h3 k)
  obtain rfl : g = g' := funext h4
  obtain rfl : b = b' := funext h5
  rw [h6]

theorem inner_congr {g g' b b' x x' h h' : Fin 1024 → EReal} (h1 : ∀ j, g j = g' j) (h2 : ∀ j, b j = b' j) (h3 : ∀ j, x j = x' j)
    (h4 : h = h') : inner g b x h = inner g' b' x' h' := by
  rw [funext h1, funext h2, funext h3, h4]

theorem projected_congr {o o' a a' : Fin 512 → EReal} {w w' : Fin 1024 → Fin 1024 → EReal} (h1 : ∀ k, o k = o' k)
    (h2 : ∀ k, a k = a' k) (h3 : ∀ k j, w k j = w' k j) : projected o a w = projected o' a' w' := by
  rw [funext h1, funext h2, funext fun k => funext (h3 k)]

theorem gated_congr {ws ws' : Fin 8 → Fin 128 → Fin 128 → EReal} {v v' : Fin 128 → Fin 512 → EReal} {b b' u u' : EReal}
    {t t' : Fin 128} (d : Fin 512) (h1 : ∀ h t s, ws h t s = ws' h t s) (h2 : ∀ s d, v s d = v' s d) (h3 : b = b') (h4 : u = u')
    (h5 : t = t') : gated ws v b u t d = gated ws' v' b' u' t' d := by
  rw [funext fun h => funext fun t => funext (h1 h t), funext fun s => funext (h2 s), h3, h4, h5]

theorem result_row (t : Fin cfg0.N) (r : Fin 512) (j : Fin 1024) :
    ((dats m 0 c).arrAt 14 cfg0.N : Vec Ideal S16384x1024 .f32) (ix2 (rowOf t r) j) =
      layerRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13))
        ⟨(rowOf t r).val / 8192, by omega⟩ ⟨(rowOf t r).val % 8192, by omega⟩ j := by
  rw [result_block, block_apply, layerRow]
  refine congrFun (outer_congr (fun d k => ?_) (fun d k => ?_) (fun k j => ?_) (fun j => ?_) (fun j => ?_)
    (inner_congr (fun j => ?_) (fun j => ?_) (fun j => ?_) (projected_congr (fun k => ?_)
      (fun d => gated_congr d (fun h t s => ?_) (fun s d => ?_) ?_ ?_ ?_) (fun k j => ?_)))) j
  · exact (congrFun (block_gate m c t) _).trans (entry_gate m c d k)
  · exact (congrFun (block_up m c t) _).trans (entry_up m c d k)
  · exact (congrFun (block_down m c t) _).trans (entry_down m c k j)
  · exact (congrFun (block_ln2g m c t) _).trans (entry_ln2g m c j)
  · exact (congrFun (block_ln2b m c t) _).trans (entry_ln2b m c j)
  · exact (congrFun (block_ln1g m c t) _).trans (entry_ln1g m c j)
  · exact (congrFun (block_ln1b m c t) _).trans (entry_ln1b m c j)
  · exact (block_x m c t r j).trans (entry_x m c _ j)
  · exact (block_o m c t r k).trans (entry_o m c _ k)
  · exact (congrFun (block_ws m c _) _).trans (entry_ws m c h _ s)
  · refine ((block_v m c _ _ d).trans (entry_v m c _ d)).trans ?_
    congr 2
    · exact Fin.ext (by simp only [rowOf]; omega)
    · exact Fin.ext (by simp only [rowOf]; omega)
  · refine ((congrFun (block_bs m c t) _).trans (entry_bs m c _ d)).trans ?_
    congr 2
    exact Fin.ext (by simp only [rowOf]; omega)
  · exact (block_u m c t r d).trans (entry_u m c _ d)
  · exact Fin.ext (by simp only [rowOf]; omega)
  · exact (congrFun (block_wout m c t) _).trans (entry_wout m c k j)

/-- THE KERNEL'S RESULT, at every index. -/
theorem result_apply (i : Fin 16384) (j : Fin 1024) :
    ((dats m 0 c).arrAt 14 cfg0.N : Vec Ideal S16384x1024 .f32) (ix2 i j) =
      layerRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13))
        ⟨i.val / 8192, by omega⟩ ⟨i.val % 8192, by omega⟩ j := by
  obtain ⟨t, r, rfl⟩ : ∃ (t : Fin grid0.N) (r : Fin 512), rowOf t r = i :=
    ⟨⟨i.val / 512, by have : grid0.N = 32 := rfl; omega⟩, ⟨i.val % 512, by omega⟩, Fin.ext (by simp only [rowOf]; omega)⟩
  exact result_row m c t r j

/-- The reference's result is the kernel's, of the same arguments. -/
theorem result_eq (W : Valuation Cert.PostReferenceIdeal.τ Cert.PostReferenceIdeal.sig (Elt Ideal))
    (h0 : W (Proc.devRef .tc Cert.PostReferenceIdeal.main_arg0) = m ((c : Thread nD τ).loc main_arg0))
    (h1 : W (Proc.devRef .tc Cert.PostReferenceIdeal.main_arg1) = m ((c : Thread nD τ).loc main_arg1))
    (h2 : W (Proc.devRef .tc Cert.PostReferenceIdeal.main_arg2) = m ((c : Thread nD τ).loc main_arg2))
    (h3 : W (Proc.devRef .tc Cert.PostReferenceIdeal.main_arg3) = m ((c : Thread nD τ).loc main_arg3))
    (h4 : W (Proc.devRef .tc Cert.PostReferenceIdeal.main_arg4) = m ((c : Thread nD τ).loc main_arg4))
    (h5 : W (Proc.devRef .tc Cert.PostReferenceIdeal.main_arg5) = m ((c : Thread nD τ).loc main_arg5))
    (h6 : W (Proc.devRef .tc Cert.PostReferenceIdeal.main_arg6) = m ((c : Thread nD τ).loc main_arg6))
    (h7 : W (Proc.devRef .tc Cert.PostReferenceIdeal.main_arg7) = m ((c : Thread nD τ).loc main_arg7))
    (h8 : W (Proc.devRef .tc Cert.PostReferenceIdeal.main_arg8) = m ((c : Thread nD τ).loc main_arg8))
    (h9 : W (Proc.devRef .tc Cert.PostReferenceIdeal.main_arg9) = m ((c : Thread nD τ).loc main_arg9))
    (h10 : W (Proc.devRef .tc Cert.PostReferenceIdeal.main_arg10) = m ((c : Thread nD τ).loc main_arg10))
    (h11 : W (Proc.devRef .tc Cert.PostReferenceIdeal.main_arg11) = m ((c : Thread nD τ).loc main_arg11))
    (h12 : W (Proc.devRef .tc Cert.PostReferenceIdeal.main_arg12) = m ((c : Thread nD τ).loc main_arg12))
    (h13 : W (Proc.devRef .tc Cert.PostReferenceIdeal.main_arg13) = m ((c : Thread nD τ).loc main_arg13)) :
    refResult W = (dats m 0 c).arrAt 14 cfg0.N := by
  funext i
  rw [show i = ix2 (i 0) (i 1) from by idx_vars i; rfl]
  refine (refResult_apply W _ _).trans (Eq.trans ?_ (result_apply m c _ _).symm)
  rw [← h0, ← h1, ← h2, ← h3, ← h4, ← h5, ← h6, ← h7, ← h8, ← h9, ← h10, ← h11, ← h12, ← h13]
  rfl

end Cert.Proof.Post

end
-- ==== Proof.lean ====
/- The claims of Defs.lean. Of the prompt's sparse attention: its frames, as written and over the extended reals, and that
   the second program is the first with its mask and its scale named; its run is in Proof/Frames.lean. Of what follows it
   in the layer: the frames, and that its result is the reference's; the values are in Proof/PostValue.lean. -/
module

public import proofs.«01_k».proof.Defs
public import proofs.«01_k».proof.Proof.Gen.Kernel
public import proofs.«01_k».proof.Proof.Gen.KernelIdeal
public import proofs.«01_k».proof.Proof.Frames
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.PostValue
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- At the words of the floats a named constant is its own word: with this reading the ideal program's text is the
    kernel's. -/
instance namedWord : Named Bits where
  named _ _ {φ} bits := Scalar.ofBits φ bits

set_option maxHeartbeats 0 in
set_option maxRecDepth 1000000 in
/-- The host program is the ideal program's at the words of the floats. -/
theorem host_eq : Cert.Kernel.main (F := Bits) = Cert.KernelIdeal.main (F := Bits) := by
  exact rfl

set_option maxHeartbeats 0 in
set_option maxRecDepth 1000000 in
/-- So is the kernel's body. -/
theorem bodies_eq : Cert.Kernel.defs₀ (F := Bits) = Cert.KernelIdeal.defs₀ (F := Bits) := by
  funext p ℓ a
  match p, ℓ, a with
  | .tc, 0, (t, s) =>
    change Cert.Kernel.cc0_nsa_prompt (F := Bits) _ _ _ _ _ _ _ _ _ _ _ _ _ _ _ _ _ _ _ _ _ =
      Cert.KernelIdeal.cc0_nsa_prompt (F := Bits) _ _ _ _ _ _ _ _ _ _ _ _ _ _ _ _ _ _ _ _ _
    exact rfl
  | .scScalar _, _, _ => rfl
  | .scVector _ _, _, _ => rfl

theorem tables_eq : Cert.Kernel.defs (F := Bits) = Cert.KernelIdeal.defs (F := Bits) :=
  congrArg (Pipeline.defs (Cert.Kernel.pcfgs (F := Bits))) bodies_eq

/-- The kernel as written ends quiescent with its arguments unchanged: the same text as the ideal program, whose frame
    holds at any float values. -/
theorem frame_kernel : Cert.quiescent_Kernel (hKernel := Cert.Kernel.Gen.facts) := by
  intro m ρ _
  rw [tables_eq, host_eq]
  exact Cert.Proof.Safe.unchanged (F := Bits) m ρ

theorem frame_kernelIdeal : Cert.quiescent_KernelIdeal (hKernelIdeal := Cert.KernelIdeal.Gen.facts) := fun m ρ _ =>
  Cert.Proof.Safe.unchanged (F := Ideal) m ρ

theorem preserves_kernel : Cert.preserves_Kernel_KernelIdeal :=
  IdealRules.named_const.statement Cert.KernelIdeal.κ "mask" .f32 0xF149F2CA#32 ⊥ rfl

/-- The reference of what follows the attention ends with its arguments unchanged, and it has no semaphores. -/
theorem frame_postReference : Cert.quiescent_PostReferenceIdeal (hPostReferenceIdeal := Cert.PostReferenceIdeal.Gen.facts) :=
  fun m ρ _ => (θ_run (Cert.PostReferenceIdeal.defs (F := Ideal)) _ _).mono
    (fun r h => ⟨fun c => (h c).2, sem_eq_zero_of_no_sems (by decide) r.2⟩)
    (Cert.PostReferenceIdeal.Value.run (F := Ideal) m ρ)

/-- What follows the attention computes, over the extended reals, what the reference does. -/
theorem algebraic_post : Cert.algebraic_PostIdeal_PostReferenceIdeal (hPostIdeal := Cert.PostIdeal.Gen.facts)
    (hPostReferenceIdeal := Cert.PostReferenceIdeal.Gen.facts) := by
  intro m g m' g' _ hargs
  refine ⟨_, Cert.PostIdeal.Value.run_blocks m g,
    (θ_run (Cert.PostReferenceIdeal.defs (F := Ideal)) _ _).mono (fun r h c => ⟨(h c).1.trans ?_, (h c).2⟩)
      (Cert.PostReferenceIdeal.Value.run (F := Ideal) m' g')⟩
  obtain ⟨h0, h1, h2, h3, h4, h5, h6, h7, h8, h9, h10, h11, h12, h13⟩ := hargs c
  exact Post.result_eq m c (StableHlo.launchContents m' c) h0 h1 h2 h3 h4 h5 h6 h7 h8 h9 h10 h11 h12 h13

theorem claim : Cert.Claim := ⟨Cert.Kernel.Gen.facts, Cert.KernelIdeal.Gen.facts, Cert.Post.Gen.facts, Cert.PostIdeal.Gen.facts,
  Cert.PostReferenceIdeal.Gen.facts, frame_kernel, frame_kernelIdeal, fun m ρ _ => Cert.Post.Gen.frame m ρ,
  fun m ρ _ => Cert.PostIdeal.Gen.frame m ρ, frame_postReference, preserves_kernel, trivial, algebraic_post⟩

end Cert.Proof

end
